-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_from_setup [hPre_drawn_from_setup : Cert.Pre_drawn_from_setup.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_from_setup.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceClampedIdeal (m : (ℓ : Loc Cert.ReferenceClampedIdeal.nD Cert.ReferenceClampedIdeal.τ Cert.ReferenceClampedIdeal.sig) → Buf (Elt Ideal) ℓ) : Prop :=
  True

def Pre_ReferenceClampedIdeal_drawn_from_setup [hPre_drawn_from_setup : Cert.Pre_drawn_from_setup.Facts] (m : (ℓ : Loc Cert.ReferenceClampedIdeal.nD Cert.ReferenceClampedIdeal.τ Cert.ReferenceClampedIdeal.sig) → Buf (Elt Ideal) ℓ) : Prop :=
  ∀ c : Dev Cert.ReferenceClampedIdeal.nD,
    (Cert.Pre_drawn_from_setup.fn (F := Ideal) (m ((c.tc : Thread Cert.ReferenceClampedIdeal.nD Cert.ReferenceClampedIdeal.τ).loc Cert.ReferenceClampedIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_drawn_from_setup [hKernelIdeal : Cert.KernelIdeal.Facts] [hPre_drawn_from_setup : Cert.Pre_drawn_from_setup.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_from_setup m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceClampedIdeal [hReferenceClampedIdeal : Cert.ReferenceClampedIdeal.Facts] : Prop :=
  ∀ (m : (ℓ : Loc Cert.ReferenceClampedIdeal.nD Cert.ReferenceClampedIdeal.τ Cert.ReferenceClampedIdeal.sig) → Buf (Elt Ideal) ℓ) (g : Dev Cert.ReferenceClampedIdeal.nD → PrngReg), Pre_ReferenceClampedIdeal m →
    θ_run (Cert.ReferenceClampedIdeal.defs (F := Ideal)) (onTc (τ := Cert.ReferenceClampedIdeal.τ) (Cert.ReferenceClampedIdeal.main (F := Ideal))) ⟨m, fun _ => 0, g⟩ (fun r => (∀ c : Dev Cert.ReferenceClampedIdeal.nD,
      r.2.mem ((c.tc : Thread Cert.ReferenceClampedIdeal.nD Cert.ReferenceClampedIdeal.τ).loc Cert.ReferenceClampedIdeal.main_arg0) = m ((c.tc : Thread Cert.ReferenceClampedIdeal.nD Cert.ReferenceClampedIdeal.τ).loc Cert.ReferenceClampedIdeal.main_arg0))
      ∧ r.2.sem = fun _ => 0)

def quiescent_ReferenceClampedIdeal_pre_drawn_from_setup [hReferenceClampedIdeal : Cert.ReferenceClampedIdeal.Facts] [hPre_drawn_from_setup : Cert.Pre_drawn_from_setup.Facts] : Prop :=
  ∀ (m : (ℓ : Loc Cert.ReferenceClampedIdeal.nD Cert.ReferenceClampedIdeal.τ Cert.ReferenceClampedIdeal.sig) → Buf (Elt Ideal) ℓ) (g : Dev Cert.ReferenceClampedIdeal.nD → PrngReg), Pre_ReferenceClampedIdeal_drawn_from_setup m →
    θ_run (Cert.ReferenceClampedIdeal.defs (F := Ideal)) (onTc (τ := Cert.ReferenceClampedIdeal.τ) (Cert.ReferenceClampedIdeal.main (F := Ideal))) ⟨m, fun _ => 0, g⟩ (fun r => (∀ c : Dev Cert.ReferenceClampedIdeal.nD,
      r.2.mem ((c.tc : Thread Cert.ReferenceClampedIdeal.nD Cert.ReferenceClampedIdeal.τ).loc Cert.ReferenceClampedIdeal.main_arg0) = m ((c.tc : Thread Cert.ReferenceClampedIdeal.nD Cert.ReferenceClampedIdeal.τ).loc Cert.ReferenceClampedIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ReferenceClampedIdeal_pre_drawn_from_setup [hKernelIdeal : Cert.KernelIdeal.Facts] [hReferenceClampedIdeal : Cert.ReferenceClampedIdeal.Facts] [hPre_drawn_from_setup : Cert.Pre_drawn_from_setup.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceClampedIdeal.nD Cert.ReferenceClampedIdeal.τ Cert.ReferenceClampedIdeal.sig) → Buf (Elt Ideal) ℓ) (g' : Dev Cert.ReferenceClampedIdeal.nD → PrngReg), Pre_KernelIdeal_drawn_from_setup m →
    (∀ c : Dev Cert.KernelIdeal.nD,
      m' ((c.tc : Thread Cert.ReferenceClampedIdeal.nD Cert.ReferenceClampedIdeal.τ).loc Cert.ReferenceClampedIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceClampedIdeal.defs (F := Ideal)) (onTc (τ := Cert.ReferenceClampedIdeal.τ) (Cert.ReferenceClampedIdeal.main (F := Ideal))) ⟨m', fun _ => 0, g'⟩ (fun r => ∀ c : Dev Cert.ReferenceClampedIdeal.nD,
          r.2.mem ((c.tc : Thread Cert.ReferenceClampedIdeal.nD Cert.ReferenceClampedIdeal.τ).loc Cert.ReferenceClampedIdeal.main_v18) = v0 c
          ∧ r.2.mem ((c.tc : Thread Cert.ReferenceClampedIdeal.nD Cert.ReferenceClampedIdeal.τ).loc Cert.ReferenceClampedIdeal.main_arg0) = m' ((c.tc : Thread Cert.ReferenceClampedIdeal.nD Cert.ReferenceClampedIdeal.τ).loc Cert.ReferenceClampedIdeal.main_arg0))

def Claim : Prop :=
  ∃ (hKernel : Cert.Kernel.Facts) (hKernelIdeal : Cert.KernelIdeal.Facts) (hReferenceIdeal : Cert.ReferenceIdeal.Facts) (hReferenceClampedIdeal : Cert.ReferenceClampedIdeal.Facts) (hPre_drawn_from_setup : Cert.Pre_drawn_from_setup.Facts),
    quiescent_Kernel (hKernel := hKernel)
    ∧ quiescent_KernelIdeal (hKernelIdeal := hKernelIdeal)
    ∧ quiescent_KernelIdeal_pre_drawn_from_setup (hKernelIdeal := hKernelIdeal) (hPre_drawn_from_setup := hPre_drawn_from_setup)
    ∧ quiescent_ReferenceIdeal (hReferenceIdeal := hReferenceIdeal)
    ∧ quiescent_ReferenceClampedIdeal (hReferenceClampedIdeal := hReferenceClampedIdeal)
    ∧ quiescent_ReferenceClampedIdeal_pre_drawn_from_setup (hReferenceClampedIdeal := hReferenceClampedIdeal) (hPre_drawn_from_setup := hPre_drawn_from_setup)
    ∧ preserves_Kernel_KernelIdeal
    ∧ algebraic_KernelIdeal_ReferenceIdeal (hKernelIdeal := hKernelIdeal) (hReferenceIdeal := hReferenceIdeal)
    ∧ algebraic_KernelIdeal_ReferenceClampedIdeal_pre_drawn_from_setup (hKernelIdeal := hKernelIdeal) (hReferenceClampedIdeal := hReferenceClampedIdeal) (hPre_drawn_from_setup := hPre_drawn_from_setup)
-- ==== Pre_drawn_from_setup.lean ====
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000 .f32) : IVec S_ 1 :=
  let main_cst : FVec F S_ .f32 := constant S_ .f32 0x358637BD#32
  let main_v0 : FVec F S100000 .f32 := broadcastInDim S100000 ![] bcast_S_S100000 main_cst
  let main_v1 : IVec S100000 1 := cmpf .oge main_arg0 main_v0
  let main_cst_0 : FVec F S_ .f32 := constant S_ .f32 0x3F800000#32
  let main_v2 : FVec F S100000 .f32 := broadcastInDim S100000 ![] bcast_S_S100000 main_cst_0
  let main_v3 : IVec S100000 1 := cmpf .ole main_arg0 main_v2
  let main_v4 : IVec S100000 1 := andi main_v1 main_v3
  let main_c : IVec S_ 1 := constantI S_ 1 1#1
  let main_v5 : IVec S_ 1 := (fun x v => Host.reduce IntOp.andi x v reducesTo_S100000_S_d0 h_S_) main_v4 main_c
  main_v5
-- ==== Kernel.lean ====
abbrev S100000 : Shape := ⟨1, ![100000]⟩
abbrev S_ : Shape := ⟨0, ![]⟩
abbrev S100352 : Shape := ⟨1, ![100352]⟩
abbrev S1x100352 : Shape := ⟨2, ![1, 100352]⟩
abbrev S32x100352 : Shape := ⟨2, ![32, 100352]⟩
abbrev S1024x128 : Shape := ⟨2, ![1024, 128]⟩
abbrev S1024x1 : Shape := ⟨2, ![1024, 1]⟩
abbrev S1024 : Shape := ⟨1, ![1024]⟩
abbrev S32x128 : Shape := ⟨2, ![32, 128]⟩
abbrev S32x256 : Shape := ⟨2, ![32, 256]⟩
abbrev S32 : Shape := ⟨1, ![32]⟩
abbrev S32x1 : Shape := ⟨2, ![32, 1]⟩

abbrev nBuf : Space → Nat
  | .hbm => 9
  | .vmem => 3
  | .smem => 0
  | _ => 0

abbrev bufTy : (tb : Table) → Fin (tcTables nBuf tb) → BufTy
  | .hbm, ⟨0, _⟩ => ⟨S100000, .f32⟩
  | .hbm, ⟨1, _⟩ => ⟨S_, .i32⟩
  | .hbm, ⟨2, _⟩ => ⟨S_, .f32⟩
  | .hbm, ⟨3, _⟩ => ⟨S100352, .f32⟩
  | .hbm, ⟨4, _⟩ => ⟨S1x100352, .f32⟩
  | .hbm, ⟨5, _⟩ => ⟨S32x100352, .f32⟩
  | .hbm, ⟨6, _⟩ => ⟨S1024x128, .i32⟩
  | .hbm, ⟨7, _⟩ => ⟨S1024x1, .i32⟩
  | .hbm, ⟨8, _⟩ => ⟨S1024, .i32⟩
  | .local _ .vmem, ⟨0, _⟩ => ⟨S32x100352, .f32⟩
  | .local _ .vmem, ⟨1, _⟩ => ⟨S32x128, .i32⟩
  | .local _ .vmem, ⟨2, _⟩ => ⟨S32x128, .i32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_call0_v0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_0 : BitVec 32 := 0#32
  let c24_i32 : BitVec 32 := 24#32
  let v12 : BitVec 32 := Scalar.addi c0_i32_0 c24_i32
  let c1_i32 : BitVec 32 := 1#32
  ⟨c0_i32_0, v12, c1_i32⟩
def k0_off1 (k0_t1 : Fin k0_t1_loop.trips) (c0_i32_437 : BitVec 32) : Fin 2 → Nat :=
  let c0_493 : Index := 0#32
  let c0_i32_0 : BitVec 32 := 0#32
  let c1_i32 : BitVec 32 := 1#32
  let arg3 : BitVec 32 := Scf.iv c0_i32_0 c1_i32 k0_t1
  let c4096_i32 : BitVec 32 := 4096#32
  let v1495 : BitVec 32 := Scalar.muli arg3 c4096_i32
  let v1496 : BitVec 32 := Scalar.addi v1495 c0_i32_437
  let v1672 : Index := Scalar.indexCast v1496
  ![0, v1672.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x100352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S100000 : Shape := ⟨1, ![100000]⟩
abbrev S_ : Shape := ⟨0, ![]⟩
abbrev S1 : Shape := ⟨1, ![1]⟩
abbrev S2 : Shape := ⟨1, ![2]⟩
abbrev S1x1 : Shape := ⟨2, ![1, 1]⟩
abbrev S1024x100000 : Shape := ⟨2, ![1024, 100000]⟩
abbrev S1x100000 : Shape := ⟨2, ![1, 100000]⟩
abbrev S1024 : Shape := ⟨1, ![1024]⟩

abbrev nBuf : Space → Nat
  | .hbm => 288
  | .vmem => 0
  | .smem => 0
  | _ => 0

abbrev hbmTy0_0 (i : Nat) : BufTy := match i % 128 with
  | 0 => ⟨S100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S1024x100000, .i64⟩
  | 22 => ⟨S1024x100000, .i64⟩
  | 23 => ⟨S_, .i64⟩
  | 24 => ⟨S1024x100000, .i64⟩
  | 25 => ⟨S1024x100000, .i64⟩
  | 26 => ⟨S_, .i64⟩
  | 27 => ⟨S1024x100000, .i64⟩
  | 28 => ⟨S1024x100000, .i64⟩
  | 29 => ⟨S1024x100000, .i64⟩
  | 30 => ⟨S_, .i64⟩
  | 31 => ⟨S1024x100000, .i64⟩
  | 32 => ⟨S1024x100000, .i64⟩
  | 33 => ⟨S1024x100000, .i32⟩
  | 34 => ⟨S1024x100000, .i32⟩
  | 35 => ⟨S_, .i32⟩
  | 36 => ⟨S_, .i32⟩
  | 37 => ⟨S_, .i32⟩
  | 38 => ⟨S1024x100000, .i32⟩
  | 39 => ⟨S1024x100000, .i32⟩
  | 40 => ⟨S1024x100000, .i32⟩
  | 41 => ⟨S1024x100000, .i32⟩
  | 42 => ⟨S1024x100000, .i32⟩
  | 43 => ⟨S_, .i32⟩
  | 44 => ⟨S1024x100000, .i32⟩
  | 45 => ⟨S1024x100000, .i32⟩
  | 46 => ⟨S_, .i32⟩
  | 47 => ⟨S1024x100000, .i32⟩
  | 48 => ⟨S1024x100000, .i32⟩
  | 49 => ⟨S1024x100000, .i32⟩
  | 50 => ⟨S1024x100000, .i32⟩
  | 51 => ⟨S1024x100000, .i32⟩
  | 52 => ⟨S_, .i32⟩
  | 53 => ⟨S1024x100000, .i32⟩
  | 54 => ⟨S1024x100000, .i32⟩
  | 55 => ⟨S_, .i32⟩
  | 56 => ⟨S1024x100000, .i32⟩
  | 57 => ⟨S1024x100000, .i32⟩
  | 58 => ⟨S1024x100000, .i32⟩
  | 59 => ⟨S1024x100000, .i32⟩
  | 60 => ⟨S1024x100000, .i32⟩
  | 61 => ⟨S_, .i32⟩
  | 62 => ⟨S1024x100000, .i32⟩
  | 63 => ⟨S1024x100000, .i32⟩
  | 64 => ⟨S_, .i32⟩
  | 65 => ⟨S1024x100000, .i32⟩
  | 66 => ⟨S1024x100000, .i32⟩
  | 67 => ⟨S1024x100000, .i32⟩
  | 68 => ⟨S1024x100000, .i32⟩
  | 69 => ⟨S1024x100000, .i32⟩
  | 70 => ⟨S_, .i32⟩
  | 71 => ⟨S1024x100000, .i32⟩
  | 72 => ⟨S1024x100000, .i32⟩
  | 73 => ⟨S_, .i32⟩
  | 74 => ⟨S1024x100000, .i32⟩
  | 75 => ⟨S1024x100000, .i32⟩
  | 76 => ⟨S1024x100000, .i32⟩
  | 77 => ⟨S1024x100000, .i32⟩
  | 78 => ⟨S1024x100000, .i32⟩
  | 79 => ⟨S1024x100000, .i32⟩
  | 80 => ⟨S1024x100000, .i32⟩
  | 81 => ⟨S1024x100000, .i32⟩
  | 82 => ⟨S_, .i32⟩
  | 83 => ⟨S1024x100000, .i32⟩
  | 84 => ⟨S1024x100000, .i32⟩
  | 85 => ⟨S1024x100000, .i32⟩
  | 86 => ⟨S_, .i32⟩
  | 87 => ⟨S1024x100000, .i32⟩
  | 88 => ⟨S1024x100000, .i32⟩
  | 89 => ⟨S_, .i32⟩
  | 90 => ⟨S1024x100000, .i32⟩
  | 91 => ⟨S1024x100000, .i32⟩
  | 92 => ⟨S1024x100000, .i32⟩
  | 93 => ⟨S1024x100000, .i32⟩
  | 94 => ⟨S1024x100000, .i32⟩
  | 95 => ⟨S_, .i32⟩
  | 96 => ⟨S1024x100000, .i32⟩
  | 97 => ⟨S1024x100000, .i32⟩
  | 98 => ⟨S_, .i32⟩
  | 99 => ⟨S1024x100000, .i32⟩
  | 100 => ⟨S1024x100000, .i32⟩
  | 101 => ⟨S1024x100000, .i32⟩
  | 102 => ⟨S1024x100000, .i32⟩
  | 103 => ⟨S1024x100000, .i32⟩
  | 104 => ⟨S_, .i32⟩
  | 105 => ⟨S1024x100000, .i32⟩
  | 106 => ⟨S1024x100000, .i32⟩
  | 107 => ⟨S_, .i32⟩
  | 108 => ⟨S1024x100000, .i32⟩
  | 109 => ⟨S1024x100000, .i32⟩
  | 110 => ⟨S1024x100000, .i32⟩
  | 111 => ⟨S1024x100000, .i32⟩
  | 112 => ⟨S1024x100000, .i32⟩
  | 113 => ⟨S_, .i32⟩
  | 114 => ⟨S1024x100000, .i32⟩
  | 115 => ⟨S1024x100000, .i32⟩
  | 116 => ⟨S_, .i32⟩
  | 117 => ⟨S1024x100000, .i32⟩
  | 118 => ⟨S1024x100000, .i32⟩
  | 119 => ⟨S1024x100000, .i32⟩
  | 120 => ⟨S1024x100000, .i32⟩
  | 121 => ⟨S1024x100000, .i32⟩
  | 122 => ⟨S1024x100000, .i32⟩
  | 123 => ⟨S1024x100000, .i32⟩
  | 124 => ⟨S1024x100000, .i32⟩
  | 125 => ⟨S_, .i32⟩
  | 126 => ⟨S1024x100000, .i32⟩
  | 127 => ⟨S1024x100000, .i32⟩
  | _ => ⟨S100000, .f32⟩

abbrev hbmTy0_1 (i : Nat) : BufTy := match i % 128 with
  | 0 => ⟨S1024x100000, .i32⟩
  | 1 => ⟨S_, .i32⟩
  | 2 => ⟨S1024x100000, .i32⟩
  | 3 => ⟨S1024x100000, .i32⟩
  | 4 => ⟨S_, .i32⟩
  | 5 => ⟨S1024x100000, .i32⟩
  | 6 => ⟨S1024x100000, .i32⟩
  | 7 => ⟨S1024x100000, .i32⟩
  | 8 => ⟨S1024x100000, .i32⟩
  | 9 => ⟨S1024x100000, .i32⟩
  | 10 => ⟨S_, .i32⟩
  | 11 => ⟨S1024x100000, .i32⟩
  | 12 => ⟨S1024x100000, .i32⟩
  | 13 => ⟨S_, .i32⟩
  | 14 => ⟨S1024x100000, .i32⟩
  | 15 => ⟨S1024x100000, .i32⟩
  | 16 => ⟨S1024x100000, .i32⟩
  | 17 => ⟨S1024x100000, .i32⟩
  | 18 => ⟨S1024x100000, .i32⟩
  | 19 => ⟨S_, .i32⟩
  | 20 => ⟨S1024x100000, .i32⟩
  | 21 => ⟨S1024x100000, .i32⟩
  | 22 => ⟨S_, .i32⟩
  | 23 => ⟨S1024x100000, .i32⟩
  | 24 => ⟨S1024x100000, .i32⟩
  | 25 => ⟨S1024x100000, .i32⟩
  | 26 => ⟨S1024x100000, .i32⟩
  | 27 => ⟨S1024x100000, .i32⟩
  | 28 => ⟨S_, .i32⟩
  | 29 => ⟨S1024x100000, .i32⟩
  | 30 => ⟨S1024x100000, .i32⟩
  | 31 => ⟨S_, .i32⟩
  | 32 => ⟨S1024x100000, .i32⟩
  | 33 => ⟨S1024x100000, .i32⟩
  | 34 => ⟨S1024x100000, .i32⟩
  | 35 => ⟨S1024x100000, .i32⟩
  | 36 => ⟨S1024x100000, .i32⟩
  | 37 => ⟨S1024x100000, .i32⟩
  | 38 => ⟨S1024x100000, .i32⟩
  | 39 => ⟨S1024x100000, .i32⟩
  | 40 => ⟨S_, .i32⟩
  | 41 => ⟨S1024x100000, .i32⟩
  | 42 => ⟨S1024x100000, .i32⟩
  | 43 => ⟨S1024x100000, .i32⟩
  | 44 => ⟨S_, .i32⟩
  | 45 => ⟨S1024x100000, .i32⟩
  | 46 => ⟨S1024x100000, .i32⟩
  | 47 => ⟨S_, .i32⟩
  | 48 => ⟨S1024x100000, .i32⟩
  | 49 => ⟨S1024x100000, .i32⟩
  | 50 => ⟨S1024x100000, .i32⟩
  | 51 => ⟨S1024x100000, .i32⟩
  | 52 => ⟨S1024x100000, .i32⟩
  | 53 => ⟨S_, .i32⟩
  | 54 => ⟨S1024x100000, .i32⟩
  | 55 => ⟨S1024x100000, .i32⟩
  | 56 => ⟨S_, .i32⟩
  | 57 => ⟨S1024x100000, .i32⟩
  | 58 => ⟨S1024x100000, .i32⟩
  | 59 => ⟨S1024x100000, .i32⟩
  | 60 => ⟨S1024x100000, .i32⟩
  | 61 => ⟨S1024x100000, .i32⟩
  | 62 => ⟨S_, .i32⟩
  | 63 => ⟨S1024x100000, .i32⟩
  | 64 => ⟨S1024x100000, .i32⟩
  | 65 => ⟨S_, .i32⟩
  | 66 => ⟨S1024x100000, .i32⟩
  | 67 => ⟨S1024x100000, .i32⟩
  | 68 => ⟨S1024x100000, .i32⟩
  | 69 => ⟨S1024x100000, .i32⟩
  | 70 => ⟨S1024x100000, .i32⟩
  | 71 => ⟨S_, .i32⟩
  | 72 => ⟨S1024x100000, .i32⟩
  | 73 => ⟨S1024x100000, .i32⟩
  | 74 => ⟨S_, .i32⟩
  | 75 => ⟨S1024x100000, .i32⟩
  | 76 => ⟨S1024x100000, .i32⟩
  | 77 => ⟨S1024x100000, .i32⟩
  | 78 => ⟨S1024x100000, .i32⟩
  | 79 => ⟨S1024x100000, .i32⟩
  | 80 => ⟨S1024x100000, .i32⟩
  | 81 => ⟨S1024x100000, .i32⟩
  | 82 => ⟨S1024x100000, .i32⟩
  | 83 => ⟨S_, .i32⟩
  | 84 => ⟨S1024x100000, .i32⟩
  | 85 => ⟨S1024x100000, .i32⟩
  | 86 => ⟨S1024x100000, .i32⟩
  | 87 => ⟨S_, .i32⟩
  | 88 => ⟨S1024x100000, .i32⟩
  | 89 => ⟨S1024x100000, .i32⟩
  | 90 => ⟨S_, .i32⟩
  | 91 => ⟨S1024x100000, .i32⟩
  | 92 => ⟨S1024x100000, .i32⟩
  | 93 => ⟨S1024x100000, .i32⟩
  | 94 => ⟨S1024x100000, .i32⟩
  | 95 => ⟨S1024x100000, .i32⟩
  | 96 => ⟨S_, .i32⟩
  | 97 => ⟨S1024x100000, .i32⟩
  | 98 => ⟨S1024x100000, .i32⟩
  | 99 => ⟨S_, .i32⟩
  | 100 => ⟨S1024x100000, .i32⟩
  | 101 => ⟨S1024x100000, .i32⟩
  | 102 => ⟨S1024x100000, .i32⟩
  | 103 => ⟨S1024x100000, .i32⟩
  | 104 => ⟨S1024x100000, .i32⟩
  | 105 => ⟨S_, .i32⟩
  | 106 => ⟨S1024x100000, .i32⟩
  | 107 => ⟨S1024x100000, .i32⟩
  | 108 => ⟨S_, .i32⟩
  | 109 => ⟨S1024x100000, .i32⟩
  | 110 => ⟨S1024x100000, .i32⟩
  | 111 => ⟨S1024x100000, .i32⟩
  | 112 => ⟨S1024x100000, .i32⟩
  | 113 => ⟨S1024x100000, .i32⟩
  | 114 => ⟨S_, .i32⟩
  | 115 => ⟨S1024x100000, .i32⟩
  | 116 => ⟨S1024x100000, .i32⟩
  | 117 => ⟨S_, .i32⟩
  | 118 => ⟨S1024x100000, .i32⟩
  | 119 => ⟨S1024x100000, .i32⟩
  | 120 => ⟨S1024x100000, .i32⟩
  | 121 => ⟨S1024x100000, .i32⟩
  | 122 => ⟨S1024x100000, .i32⟩
  | 123 => ⟨S1024x100000, .i32⟩
  | 124 => ⟨S1024x100000, .i32⟩
  | 125 => ⟨S1024x100000, .i32⟩
  | 126 => ⟨S_, .i32⟩
  | 127 => ⟨S1024x100000, .i32⟩
  | _ => ⟨S100000, .f32⟩

abbrev hbmTy0_2 (i : Nat) : BufTy := match i % 128 with
  | 0 => ⟨S1024x100000, .i32⟩
  | 1 => ⟨S1024x100000, .i32⟩
  | 2 => ⟨S_, .i32⟩
  | 3 => ⟨S1024x100000, .i32⟩
  | 4 => ⟨S1024x100000, .i32⟩
  | 5 => ⟨S_, .i32⟩
  | 6 => ⟨S1024x100000, .i32⟩
  | 7 => ⟨S1024x100000, .i32⟩
  | 8 => ⟨S1024x100000, .f32⟩
  | 9 => ⟨S_, .f32⟩
  | 10 => ⟨S1024x100000, .f32⟩
  | 11 => ⟨S1024x100000, .f32⟩
  | 12 => ⟨S1x1, .f32⟩
  | 13 => ⟨S1024x100000, .f32⟩
  | 14 => ⟨S1024x100000, .f32⟩
  | 15 => ⟨S1024x100000, .f32⟩
  | 16 => ⟨S1024x100000, .f32⟩
  | 17 => ⟨S1024x100000, .f32⟩
  | 18 => ⟨S1024x100000, .f32⟩
  | 19 => ⟨S1024x100000, .f32⟩
  | 20 => ⟨S1024x100000, .f32⟩
  | 21 => ⟨S1024x100000, .f32⟩
  | 22 => ⟨S1024x100000, .f32⟩
  | 23 => ⟨S100000, .f32⟩
  | 24 => ⟨S1x100000, .f32⟩
  | 25 => ⟨S1024x100000, .f32⟩
  | 26 => ⟨S1024x100000, .f32⟩
  | 27 => ⟨S1024x100000, .i32⟩
  | 28 => ⟨S_, .f32⟩
  | 29 => ⟨S_, .i32⟩
  | 30 => ⟨S1024, .f32⟩
  | 31 => ⟨S1024, .i32⟩
  | _ => ⟨S100000, .f32⟩

abbrev hbmTy (i : Nat) : BufTy := match i / 128 with
  | 0 => hbmTy0_0 i
  | 1 => hbmTy0_1 i
  | 2 => hbmTy0_2 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_v8 : Ref sig .tc := ⟨.hbm, 275, rfl⟩
abbrev main_v9 : Ref sig .tc := ⟨.hbm, 276, rfl⟩
abbrev main_v10 : Ref sig .tc := ⟨.hbm, 277, rfl⟩
abbrev main_v11 : Ref sig .tc := ⟨.hbm, 278, rfl⟩
abbrev main_v12 : Ref sig .tc := ⟨.hbm, 279, rfl⟩
abbrev main_v13 : Ref sig .tc := ⟨.hbm, 280, rfl⟩
abbrev main_v14 : Ref sig .tc := ⟨.hbm, 281, rfl⟩
abbrev main_v15 : Ref sig .tc := ⟨.hbm, 282, rfl⟩
abbrev main_call1_v0 : Ref sig .tc := ⟨.hbm, 283, rfl⟩
abbrev main_call1_cst : Ref sig .tc := ⟨.hbm, 284, rfl⟩
abbrev main_call1_c : Ref sig .tc := ⟨.hbm, 285, rfl⟩
abbrev main_call1_v1_0 : Ref sig .tc := ⟨.hbm, 286, rfl⟩
abbrev main_v16 : Ref sig .tc := ⟨.hbm, 287, rfl⟩

abbrev nD : Nat := 1
abbrev τ : Topo := Topo.v7x

variable {F : FTy → Type} [FloatOps F]
-- ==== ReferenceClampedIdeal.lean ====
abbrev S100000 : Shape := ⟨1, ![100000]⟩
abbrev S_ : Shape := ⟨0, ![]⟩
abbrev S1 : Shape := ⟨1, ![1]⟩
abbrev S2 : Shape := ⟨1, ![2]⟩
abbrev S1x1 : Shape := ⟨2, ![1, 1]⟩
abbrev S1024x100000 : Shape := ⟨2, ![1024, 100000]⟩
abbrev S1x100000 : Shape := ⟨2, ![1, 100000]⟩
abbrev S1024 : Shape := ⟨1, ![1024]⟩

abbrev nBuf : Space → Nat
  | .hbm => 291
  | .vmem => 0
  | .smem => 0
  | _ => 0

abbrev hbmTy0_0 (i : Nat) : BufTy := match i % 128 with
  | 0 => ⟨S100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S1024x100000, .i64⟩
  | 22 => ⟨S1024x100000, .i64⟩
  | 23 => ⟨S_, .i64⟩
  | 24 => ⟨S1024x100000, .i64⟩
  | 25 => ⟨S1024x100000, .i64⟩
  | 26 => ⟨S_, .i64⟩
  | 27 => ⟨S1024x100000, .i64⟩
  | 28 => ⟨S1024x100000, .i64⟩
  | 29 => ⟨S1024x100000, .i64⟩
  | 30 => ⟨S_, .i64⟩
  | 31 => ⟨S1024x100000, .i64⟩
  | 32 => ⟨S1024x100000, .i64⟩
  | 33 => ⟨S1024x100000, .i32⟩
  | 34 => ⟨S1024x100000, .i32⟩
  | 35 => ⟨S_, .i32⟩
  | 36 => ⟨S_, .i32⟩
  | 37 => ⟨S_, .i32⟩
  | 38 => ⟨S1024x100000, .i32⟩
  | 39 => ⟨S1024x100000, .i32⟩
  | 40 => ⟨S1024x100000, .i32⟩
  | 41 => ⟨S1024x100000, .i32⟩
  | 42 => ⟨S1024x100000, .i32⟩
  | 43 => ⟨S_, .i32⟩
  | 44 => ⟨S1024x100000, .i32⟩
  | 45 => ⟨S1024x100000, .i32⟩
  | 46 => ⟨S_, .i32⟩
  | 47 => ⟨S1024x100000, .i32⟩
  | 48 => ⟨S1024x100000, .i32⟩
  | 49 => ⟨S1024x100000, .i32⟩
  | 50 => ⟨S1024x100000, .i32⟩
  | 51 => ⟨S1024x100000, .i32⟩
  | 52 => ⟨S_, .i32⟩
  | 53 => ⟨S1024x100000, .i32⟩
  | 54 => ⟨S1024x100000, .i32⟩
  | 55 => ⟨S_, .i32⟩
  | 56 => ⟨S1024x100000, .i32⟩
  | 57 => ⟨S1024x100000, .i32⟩
  | 58 => ⟨S1024x100000, .i32⟩
  | 59 => ⟨S1024x100000, .i32⟩
  | 60 => ⟨S1024x100000, .i32⟩
  | 61 => ⟨S_, .i32⟩
  | 62 => ⟨S1024x100000, .i32⟩
  | 63 => ⟨S1024x100000, .i32⟩
  | 64 => ⟨S_, .i32⟩
  | 65 => ⟨S1024x100000, .i32⟩
  | 66 => ⟨S1024x100000, .i32⟩
  | 67 => ⟨S1024x100000, .i32⟩
  | 68 => ⟨S1024x100000, .i32⟩
  | 69 => ⟨S1024x100000, .i32⟩
  | 70 => ⟨S_, .i32⟩
  | 71 => ⟨S1024x100000, .i32⟩
  | 72 => ⟨S1024x100000, .i32⟩
  | 73 => ⟨S_, .i32⟩
  | 74 => ⟨S1024x100000, .i32⟩
  | 75 => ⟨S1024x100000, .i32⟩
  | 76 => ⟨S1024x100000, .i32⟩
  | 77 => ⟨S1024x100000, .i32⟩
  | 78 => ⟨S1024x100000, .i32⟩
  | 79 => ⟨S1024x100000, .i32⟩
  | 80 => ⟨S1024x100000, .i32⟩
  | 81 => ⟨S1024x100000, .i32⟩
  | 82 => ⟨S_, .i32⟩
  | 83 => ⟨S1024x100000, .i32⟩
  | 84 => ⟨S1024x100000, .i32⟩
  | 85 => ⟨S1024x100000, .i32⟩
  | 86 => ⟨S_, .i32⟩
  | 87 => ⟨S1024x100000, .i32⟩
  | 88 => ⟨S1024x100000, .i32⟩
  | 89 => ⟨S_, .i32⟩
  | 90 => ⟨S1024x100000, .i32⟩
  | 91 => ⟨S1024x100000, .i32⟩
  | 92 => ⟨S1024x100000, .i32⟩
  | 93 => ⟨S1024x100000, .i32⟩
  | 94 => ⟨S1024x100000, .i32⟩
  | 95 => ⟨S_, .i32⟩
  | 96 => ⟨S1024x100000, .i32⟩
  | 97 => ⟨S1024x100000, .i32⟩
  | 98 => ⟨S_, .i32⟩
  | 99 => ⟨S1024x100000, .i32⟩
  | 100 => ⟨S1024x100000, .i32⟩
  | 101 => ⟨S1024x100000, .i32⟩
  | 102 => ⟨S1024x100000, .i32⟩
  | 103 => ⟨S1024x100000, .i32⟩
  | 104 => ⟨S_, .i32⟩
  | 105 => ⟨S1024x100000, .i32⟩
  | 106 => ⟨S1024x100000, .i32⟩
  | 107 => ⟨S_, .i32⟩
  | 108 => ⟨S1024x100000, .i32⟩
  | 109 => ⟨S1024x100000, .i32⟩
  | 110 => ⟨S1024x100000, .i32⟩
  | 111 => ⟨S1024x100000, .i32⟩
  | 112 => ⟨S1024x100000, .i32⟩
  | 113 => ⟨S_, .i32⟩
  | 114 => ⟨S1024x100000, .i32⟩
  | 115 => ⟨S1024x100000, .i32⟩
  | 116 => ⟨S_, .i32⟩
  | 117 => ⟨S1024x100000, .i32⟩
  | 118 => ⟨S1024x100000, .i32⟩
  | 119 => ⟨S1024x100000, .i32⟩
  | 120 => ⟨S1024x100000, .i32⟩
  | 121 => ⟨S1024x100000, .i32⟩
  | 122 => ⟨S1024x100000, .i32⟩
  | 123 => ⟨S1024x100000, .i32⟩
  | 124 => ⟨S1024x100000, .i32⟩
  | 125 => ⟨S_, .i32⟩
  | 126 => ⟨S1024x100000, .i32⟩
  | 127 => ⟨S1024x100000, .i32⟩
  | _ => ⟨S100000, .f32⟩

abbrev hbmTy0_1 (i : Nat) : BufTy := match i % 128 with
  | 0 => ⟨S1024x100000, .i32⟩
  | 1 => ⟨S_, .i32⟩
  | 2 => ⟨S1024x100000, .i32⟩
  | 3 => ⟨S1024x100000, .i32⟩
  | 4 => ⟨S_, .i32⟩
  | 5 => ⟨S1024x100000, .i32⟩
  | 6 => ⟨S1024x100000, .i32⟩
  | 7 => ⟨S1024x100000, .i32⟩
  | 8 => ⟨S1024x100000, .i32⟩
  | 9 => ⟨S1024x100000, .i32⟩
  | 10 => ⟨S_, .i32⟩
  | 11 => ⟨S1024x100000, .i32⟩
  | 12 => ⟨S1024x100000, .i32⟩
  | 13 => ⟨S_, .i32⟩
  | 14 => ⟨S1024x100000, .i32⟩
  | 15 => ⟨S1024x100000, .i32⟩
  | 16 => ⟨S1024x100000, .i32⟩
  | 17 => ⟨S1024x100000, .i32⟩
  | 18 => ⟨S1024x100000, .i32⟩
  | 19 => ⟨S_, .i32⟩
  | 20 => ⟨S1024x100000, .i32⟩
  | 21 => ⟨S1024x100000, .i32⟩
  | 22 => ⟨S_, .i32⟩
  | 23 => ⟨S1024x100000, .i32⟩
  | 24 => ⟨S1024x100000, .i32⟩
  | 25 => ⟨S1024x100000, .i32⟩
  | 26 => ⟨S1024x100000, .i32⟩
  | 27 => ⟨S1024x100000, .i32⟩
  | 28 => ⟨S_, .i32⟩
  | 29 => ⟨S1024x100000, .i32⟩
  | 30 => ⟨S1024x100000, .i32⟩
  | 31 => ⟨S_, .i32⟩
  | 32 => ⟨S1024x100000, .i32⟩
  | 33 => ⟨S1024x100000, .i32⟩
  | 34 => ⟨S1024x100000, .i32⟩
  | 35 => ⟨S1024x100000, .i32⟩
  | 36 => ⟨S1024x100000, .i32⟩
  | 37 => ⟨S1024x100000, .i32⟩
  | 38 => ⟨S1024x100000, .i32⟩
  | 39 => ⟨S1024x100000, .i32⟩
  | 40 => ⟨S_, .i32⟩
  | 41 => ⟨S1024x100000, .i32⟩
  | 42 => ⟨S1024x100000, .i32⟩
  | 43 => ⟨S1024x100000, .i32⟩
  | 44 => ⟨S_, .i32⟩
  | 45 => ⟨S1024x100000, .i32⟩
  | 46 => ⟨S1024x100000, .i32⟩
  | 47 => ⟨S_, .i32⟩
  | 48 => ⟨S1024x100000, .i32⟩
  | 49 => ⟨S1024x100000, .i32⟩
  | 50 => ⟨S1024x100000, .i32⟩
  | 51 => ⟨S1024x100000, .i32⟩
  | 52 => ⟨S1024x100000, .i32⟩
  | 53 => ⟨S_, .i32⟩
  | 54 => ⟨S1024x100000, .i32⟩
  | 55 => ⟨S1024x100000, .i32⟩
  | 56 => ⟨S_, .i32⟩
  | 57 => ⟨S1024x100000, .i32⟩
  | 58 => ⟨S1024x100000, .i32⟩
  | 59 => ⟨S1024x100000, .i32⟩
  | 60 => ⟨S1024x100000, .i32⟩
  | 61 => ⟨S1024x100000, .i32⟩
  | 62 => ⟨S_, .i32⟩
  | 63 => ⟨S1024x100000, .i32⟩
  | 64 => ⟨S1024x100000, .i32⟩
  | 65 => ⟨S_, .i32⟩
  | 66 => ⟨S1024x100000, .i32⟩
  | 67 => ⟨S1024x100000, .i32⟩
  | 68 => ⟨S1024x100000, .i32⟩
  | 69 => ⟨S1024x100000, .i32⟩
  | 70 => ⟨S1024x100000, .i32⟩
  | 71 => ⟨S_, .i32⟩
  | 72 => ⟨S1024x100000, .i32⟩
  | 73 => ⟨S1024x100000, .i32⟩
  | 74 => ⟨S_, .i32⟩
  | 75 => ⟨S1024x100000, .i32⟩
  | 76 => ⟨S1024x100000, .i32⟩
  | 77 => ⟨S1024x100000, .i32⟩
  | 78 => ⟨S1024x100000, .i32⟩
  | 79 => ⟨S1024x100000, .i32⟩
  | 80 => ⟨S1024x100000, .i32⟩
  | 81 => ⟨S1024x100000, .i32⟩
  | 82 => ⟨S1024x100000, .i32⟩
  | 83 => ⟨S_, .i32⟩
  | 84 => ⟨S1024x100000, .i32⟩
  | 85 => ⟨S1024x100000, .i32⟩
  | 86 => ⟨S1024x100000, .i32⟩
  | 87 => ⟨S_, .i32⟩
  | 88 => ⟨S1024x100000, .i32⟩
  | 89 => ⟨S1024x100000, .i32⟩
  | 90 => ⟨S_, .i32⟩
  | 91 => ⟨S1024x100000, .i32⟩
  | 92 => ⟨S1024x100000, .i32⟩
  | 93 => ⟨S1024x100000, .i32⟩
  | 94 => ⟨S1024x100000, .i32⟩
  | 95 => ⟨S1024x100000, .i32⟩
  | 96 => ⟨S_, .i32⟩
  | 97 => ⟨S1024x100000, .i32⟩
  | 98 => ⟨S1024x100000, .i32⟩
  | 99 => ⟨S_, .i32⟩
  | 100 => ⟨S1024x100000, .i32⟩
  | 101 => ⟨S1024x100000, .i32⟩
  | 102 => ⟨S1024x100000, .i32⟩
  | 103 => ⟨S1024x100000, .i32⟩
  | 104 => ⟨S1024x100000, .i32⟩
  | 105 => ⟨S_, .i32⟩
  | 106 => ⟨S1024x100000, .i32⟩
  | 107 => ⟨S1024x100000, .i32⟩
  | 108 => ⟨S_, .i32⟩
  | 109 => ⟨S1024x100000, .i32⟩
  | 110 => ⟨S1024x100000, .i32⟩
  | 111 => ⟨S1024x100000, .i32⟩
  | 112 => ⟨S1024x100000, .i32⟩
  | 113 => ⟨S1024x100000, .i32⟩
  | 114 => ⟨S_, .i32⟩
  | 115 => ⟨S1024x100000, .i32⟩
  | 116 => ⟨S1024x100000, .i32⟩
  | 117 => ⟨S_, .i32⟩
  | 118 => ⟨S1024x100000, .i32⟩
  | 119 => ⟨S1024x100000, .i32⟩
  | 120 => ⟨S1024x100000, .i32⟩
  | 121 => ⟨S1024x100000, .i32⟩
  | 122 => ⟨S1024x100000, .i32⟩
  | 123 => ⟨S1024x100000, .i32⟩
  | 124 => ⟨S1024x100000, .i32⟩
  | 125 => ⟨S1024x100000, .i32⟩
  | 126 => ⟨S_, .i32⟩
  | 127 => ⟨S1024x100000, .i32⟩
  | _ => ⟨S100000, .f32⟩

abbrev hbmTy0_2 (i : Nat) : BufTy := match i % 128 with
  | 0 => ⟨S1024x100000, .i32⟩
  | 1 => ⟨S1024x100000, .i32⟩
  | 2 => ⟨S_, .i32⟩
  | 3 => ⟨S1024x100000, .i32⟩
  | 4 => ⟨S1024x100000, .i32⟩
  | 5 => ⟨S_, .i32⟩
  | 6 => ⟨S1024x100000, .i32⟩
  | 7 => ⟨S1024x100000, .i32⟩
  | 8 => ⟨S1024x100000, .f32⟩
  | 9 => ⟨S_, .f32⟩
  | 10 => ⟨S1024x100000, .f32⟩
  | 11 => ⟨S1024x100000, .f32⟩
  | 12 => ⟨S1x1, .f32⟩
  | 13 => ⟨S1024x100000, .f32⟩
  | 14 => ⟨S1024x100000, .f32⟩
  | 15 => ⟨S1024x100000, .f32⟩
  | 16 => ⟨S1024x100000, .f32⟩
  | 17 => ⟨S1024x100000, .f32⟩
  | 18 => ⟨S1024x100000, .f32⟩
  | 19 => ⟨S_, .f32⟩
  | 20 => ⟨S1024x100000, .f32⟩
  | 21 => ⟨S1024x100000, .f32⟩
  | 22 => ⟨S1024x100000, .f32⟩
  | 23 => ⟨S1024x100000, .f32⟩
  | 24 => ⟨S1024x100000, .f32⟩
  | 25 => ⟨S1024x100000, .f32⟩
  | 26 => ⟨S100000, .f32⟩
  | 27 => ⟨S1x100000, .f32⟩
  | 28 => ⟨S1024x100000, .f32⟩
  | 29 => ⟨S1024x100000, .f32⟩
  | 30 => ⟨S1024x100000, .i32⟩
  | 31 => ⟨S_, .f32⟩
  | 32 => ⟨S_, .i32⟩
  | 33 => ⟨S1024, .f32⟩
  | 34 => ⟨S1024, .i32⟩
  | _ => ⟨S100000, .f32⟩

abbrev hbmTy (i : Nat) : BufTy := match i / 128 with
  | 0 => hbmTy0_0 i
  | 1 => hbmTy0_1 i
  | 2 => hbmTy0_2 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_v12 : Ref sig .tc := ⟨.hbm, 280, rfl⟩
abbrev main_v13 : Ref sig .tc := ⟨.hbm, 281, rfl⟩
abbrev main_v14 : Ref sig .tc := ⟨.hbm, 282, rfl⟩
abbrev main_v15 : Ref sig .tc := ⟨.hbm, 283, rfl⟩
abbrev main_v16 : Ref sig .tc := ⟨.hbm, 284, rfl⟩
abbrev main_v17 : Ref sig .tc := ⟨.hbm, 285, rfl⟩
abbrev main_call1_v0 : Ref sig .tc := ⟨.hbm, 286, rfl⟩
abbrev main_call1_cst : Ref sig .tc := ⟨.hbm, 287, rfl⟩
abbrev main_call1_c : Ref sig .tc := ⟨.hbm, 288, rfl⟩
abbrev main_call1_v1_0 : Ref sig .tc := ⟨.hbm, 289, rfl⟩
abbrev main_v18 : Ref sig .tc := ⟨.hbm, 290, rfl⟩

abbrev nD : Nat := 1
abbrev τ : Topo := Topo.v7x

variable {F : FTy → Type} [FloatOps F]
-- ==== Proof.RefTerm.lean ====
/- The reference's result as one term over its argument, in the reference's own vector operations. -/
module

public import proofs.«01_k».proof.Proof.Gen.ReferenceIdeal
public import Idealize.ShloMosaic.Lib.Claim
public import Idealize.ShloMosaic.Lib.Tactic

@[expose] public section

set_option maxRecDepth 65536

noncomputable section

namespace Cert.ReferenceIdeal.Term

open Idealize.ShloMosaic Idealize.ShloMosaic.TcCoe Idealize.SL.Sem
open Cert.ReferenceIdeal Cert.ReferenceIdeal.Gen

variable {F : FTy → Type} [FloatOps F]

/-- A scalar word on every cell. -/
def bc (k : IVec S_ 32) : IVec S1024x100000 32 := broadcastInDim S1024x100000 ![] bcast_S_S1024x100000 k

/-- The two words of the generator's state, on every cell. -/
abbrev StV := IVec S1024x100000 32 × IVec S1024x100000 32

/-- One round. -/
def stepV (l r : BitVec 32) (p : StV) : StV :=
  let s := addi p.1 p.2
  (s, xori s (ori (Host.shli p.2 (bc (constantI S_ 32 l))) (Host.shrui p.2 (bc (constantI S_ 32 r)))))

/-- The even group of four rounds. -/
def groupAV (p : StV) : StV := stepV 6#32 26#32 (stepV 26#32 6#32 (stepV 15#32 17#32 (stepV 13#32 19#32 p)))

/-- The odd group of four rounds. -/
def groupBV (p : StV) : StV := stepV 24#32 8#32 (stepV 16#32 16#32 (stepV 29#32 3#32 (stepV 17#32 15#32 p)))

/-- Key words and the number of the group added. -/
def injectV (a b : IVec S_ 32) (n : BitVec 32) (p : StV) : StV :=
  (addi p.1 (bc a), addi (addi p.2 (bc b)) (bc (constantI S_ 32 n)))

/-- The third key word. -/
def key2 (k0 k1 : IVec S_ 32) : IVec S_ 32 := xori (xori k0 k1) (constantI S_ 32 466688986#32)

/-- The generator's two words for the key `(k0, k1)` and the counters `(c0, c1)`. -/
def pairV (k0 k1 : IVec S_ 32) (c0 c1 : IVec S1024x100000 32) : StV :=
  injectV (key2 k0 k1) k0 5#32 (groupAV
    (injectV k1 (key2 k0 k1) 4#32 (groupBV
    (injectV k0 k1 3#32 (groupAV
    (injectV (key2 k0 k1) k0 2#32 (groupBV
    (injectV k1 (key2 k0 k1) 1#32 (groupAV
      (addi c0 (bc k0), addi c1 (bc k1)))))))))))

/-- The key of seed 42. -/
def keyV : IVec S2 32 :=
  concatenate S2 0
    [⟨S1, broadcastInDim S1 ![] bcast_S_S1 (id (Host.shrui (constantI S_ 32 42#32) (constantI S_ 32 32#32)))⟩,
     ⟨S1, broadcastInDim S1 ![] bcast_S_S1 (id (andi (constantI S_ 32 42#32) (constantI S_ 32 4294967295#32)))⟩]
    concatenates_S1_S1_S2_d0

/-- The first key word. -/
def k0V : IVec S_ 32 := shapeCast S_ (extractStridedSlice S1 ![0] keyV slices_S2_S1_0) shapeCasts_S1_S_

/-- The second key word. -/
def k1V : IVec S_ 32 := shapeCast S_ (extractStridedSlice S1 ![1] keyV slices_S2_S1_1) shapeCasts_S1_S_

/-- The number of every cell, on 64 bits. -/
def countV : IVec S1024x100000 64 :=
  addi (muli (broadcastInDim S1024x100000 ![] bcast_S_S1024x100000 (constantI S_ 64 100000#64))
      (iotaInDim S1024x100000 64 0))
    (muli (broadcastInDim S1024x100000 ![] bcast_S_S1024x100000 (constantI S_ 64 1#64))
      (iotaInDim S1024x100000 64 1))

/-- The high words of the cells' numbers. -/
def hiV : IVec S1024x100000 32 :=
  trunci 32 (Host.shrui countV (broadcastInDim S1024x100000 ![] bcast_S_S1024x100000 (constantI S_ 64 32#64)))
    natLt_32_64

/-- The low words of the cells' numbers. -/
def loV : IVec S1024x100000 32 := trunci 32 countV natLt_32_64

/-- The random words. -/
def wordV : IVec S1024x100000 32 :=
  let p := pairV k0V k1V hiV loV
  xori p.1 p.2

/-- A scalar on a one-by-one array. -/
def one (a : FVec F S_ .f32) : FVec F S1x1 .f32 := broadcastInDim S1x1 ![] bcast_S_S1x1 (id a)

/-- A one-by-one array on every cell. -/
def all (a : FVec F S1x1 .f32) : FVec F S1024x100000 .f32 :=
  broadcastInDim S1024x100000 ![0, 1] bcast_S1x1_S1024x100000_0_1 a

/-- The uniform variates made of the random words `w`. -/
def unifOf (w : IVec S1024x100000 32) : FVec F S1024x100000 .f32 :=
  let lo : FVec F S1x1 .f32 := one (constant S_ .f32 0x00000000#32)
  let hi : FVec F S1x1 .f32 := one (constant S_ .f32 0x3F800000#32)
  let f : FVec F S1024x100000 .f32 :=
    subf (bitcastToFloat .f32 (ori (Host.shrui w (bc (constantI S_ 32 9#32))) (bc (constantI S_ 32 1065353216#32))))
      (broadcastInDim S1024x100000 ![] bcast_S_S1024x100000 (constant S_ .f32 0x3F800000#32))
  maximumf (all lo) (addf (mulf f (all (subf hi lo))) (all lo))

/-- The scores, for the uniform variates `u`. -/
def scoreOf (u : FVec F S1024x100000 .f32) (X : FVec F S100000 .f32) : FVec F S1024x100000 .f32 :=
  addf (broadcastInDim S1024x100000 ![0, 1] bcast_S1x100000_S1024x100000_0_1
      (broadcastInDim S1x100000 ![1] bcast_S100000_S1x100000_1 (Host.log X)))
    (Host.negf (Host.log (Host.negf (Host.log u))))

/-- The scores. -/
def scoreV (X : FVec F S100000 .f32) : FVec F S1024x100000 .f32 := scoreOf (unifOf wordV) X

/-- The greatest value of a row with its column. -/
@[irreducible] def argPair (x : FVec F S1024x100000 .f32) (j : S1024.Idx) : F .f32 × BitVec 32 :=
  Host.argReduce reducer_argmax_f32_i32 x (iotaInDim S1024x100000 32 1) (constant S_ .f32 0xFF800000#32)
    (constantI S_ 32 0#32) reducesTo_S1024x100000_S1024_d1 h_S_ j

/-- The second parts of a family of pairs. -/
def second (P : S1024.Idx → F .f32 × BitVec 32) : IVec S1024 32 := fun j => (P j).2

theorem second_apply {P : S1024.Idx → F .f32 × BitVec 32} {j : S1024.Idx} {q : F .f32 × BitVec 32} (h : P j = q) :
    second P j = q.2 := congrArg Prod.snd h

/-- The row-wise arg-max. -/
def argV (x : FVec F S1024x100000 .f32) : IVec S1024 32 := second (argPair x)

/-- The result: the row-wise arg-max of the scores. -/
def resultV (X : FVec F S100000 .f32) : IVec S1024 32 := argV (scoreV X)

/-- The reference's operations. -/
def ops : { ops : List (HloOp τ sig (Elt F)) //
    ∀ d : Dev nD, StableHlo.IsSeq (main (F := F) d) ops } :=
  by constructor; hlo_seq

/-- What they leave in the result array. -/
theorem after_eq (W : Valuation τ sig (Elt F)) :
    StableHlo.after (ops (F := F)).1 W (Proc.devRef .tc main_v16) = resultV (W (Proc.devRef .tc main_arg0)) := by
  sl_kernel_rfl

/-- They leave the argument as it was. -/
theorem after_arg (W : Valuation τ sig (Elt F)) :
    StableHlo.after (ops (F := F)).1 W (Proc.devRef .tc main_arg0) = W (Proc.devRef .tc main_arg0) := by
  sl_kernel_rfl

end Cert.ReferenceIdeal.Term
-- ==== Proof.RefRun.lean ====
/- The run of the reference. -/
module

public import proofs.«01_k».proof.Proof.RefTerm

@[expose] public section

set_option maxRecDepth 65536

noncomputable section

namespace Cert.ReferenceIdeal.Term

open Idealize.ShloMosaic Idealize.ShloMosaic.TcCoe Idealize.SL.Sem
open Cert.ReferenceIdeal Cert.ReferenceIdeal.Gen

variable {F : FTy → Type} [FloatOps F]

/-- The reference runs to its result term over the argument, and leaves the argument as it was. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v16) = resultV (m ((c.tc : Thread nD τ).loc main_arg0))
      ∧ r.2.mem ((c.tc : Thread nD τ).loc main_arg0) = m ((c.tc : Thread nD τ).loc main_arg0)) := by
  refine (θ_run defs _ _).mono (fun r hr c => ⟨(hr c main_v16).trans (after_eq _), (hr c main_arg0).trans (after_arg _)⟩)
    (StableHlo.run_hlo defs (main (F := F)) (ops (F := F)).2 (by decide) (by decide) ?_ ?_ m ρ)
  · simp [ops]
  · intro _ h
    (repeat (cases h with | head => rfl | tail _ h => ?_))
    exact nomatch h

end Cert.ReferenceIdeal.Term
-- ==== Proof.Chunk.lean ====
/- One chunk of 32 x 256 draws as the kernel computes it, in the kernel's own vector operations, and the equation
   saying that one trip of the kernel's loop is sixteen such chunks. -/
module

public import proofs.«01_k».proof.Proof.Gen.KernelIdeal.Loops
import all proofs.«01_k».proof.Proof.Gen.KernelIdeal.Loops

@[expose] public section

set_option maxRecDepth 65536

noncomputable section

namespace Cert.KernelIdeal.Chunk

open Idealize.ShloMosaic Idealize.ShloMosaic.TcCoe
open Cert.KernelIdeal Cert.KernelIdeal.Gen

variable {F : FTy → Type} [FloatOps F]

/-- One mixing step: the second word turned left by `l` (`r = 32 - l`), combined with the running sum `s`. -/
def mix (l r : BitVec 32) (s y : IVec S32x256 32) : IVec S32x256 32 :=
  xori (ori (shli y (broadcast S32x256 l)) (shrui y (broadcast S32x256 r))) s

/-- A key word added to every entry. -/
def plus (x : IVec S32x256 32) (k : BitVec 32) : IVec S32x256 32 := addi x (broadcast S32x256 k)

/-- The twenty mixing steps of the counter generator with the key words of seed 42, from the counter vector `x`
    (the low counter word with the key word already added), the two result words combined. -/
def bits (x : IVec S32x256 32) : IVec S32x256 32 :=
  let y1 := mix 13#32 19#32 x x
  let s1 := addi x y1
  let y2 := mix 15#32 17#32 s1 y1
  let s2 := addi s1 y2
  let y3 := mix 26#32 6#32 s2 y2
  let s3 := addi s2 y3
  let y4 := mix 6#32 26#32 s3 y3
  let y5 := plus y4 466689009#32
  let s5 := addi (plus s3 42#32) y5
  let y6 := mix 17#32 15#32 s5 y5
  let s6 := addi s5 y6
  let y7 := mix 29#32 3#32 s6 y6
  let s7 := addi s6 y7
  let y8 := mix 16#32 16#32 s7 y7
  let s8 := addi s7 y8
  let y9 := mix 24#32 8#32 s8 y8
  let y10 := plus y9 2#32
  let s10 := addi (plus s8 466689008#32) y10
  let y11 := mix 13#32 19#32 s10 y10
  let s11 := addi s10 y11
  let y12 := mix 15#32 17#32 s11 y11
  let s12 := addi s11 y12
  let y13 := mix 26#32 6#32 s12 y12
  let s13 := addi s12 y13
  let y14 := mix 6#32 26#32 s13 y13
  let y15 := plus y14 45#32
  let s15 := addi (plus s13 0#32) y15
  let y16 := mix 17#32 15#32 s15 y15
  let s16 := addi s15 y16
  let y17 := mix 29#32 3#32 s16 y16
  let s17 := addi s16 y17
  let y18 := mix 16#32 16#32 s17 y17
  let s18 := addi s17 y18
  let y19 := mix 24#32 8#32 s18 y18
  let y20 := plus y19 466689012#32
  let s20 := addi (plus s18 42#32) y20
  let y21 := mix 13#32 19#32 s20 y20
  let s21 := addi s20 y21
  let y22 := mix 15#32 17#32 s21 y21
  let s22 := addi s21 y22
  let y23 := mix 26#32 6#32 s22 y22
  let s23 := addi s22 y23
  let y24 := mix 6#32 26#32 s23 y23
  xori (plus s23 466689008#32) (plus y24 5#32)

/-- The Gumbel noise made of the random words `w`. -/
def noise (w : IVec S32x256 32) : FVec F S32x256 .f32 :=
  subf (broadcast S32x256 (Scalar.ofBits .f32 0x00000000#32))
    (log (subf (broadcast S32x256 (Scalar.ofBits .f32 0x00000000#32))
      (log (subf (bitcastToFloat .f32
          (ori (shrui w (broadcast S32x256 9#32)) (broadcast S32x256 1065353216#32)))
        (broadcast S32x256 (Scalar.ofBits .f32 0x3F800000#32))))))

/-- What the loop carries: the running maximum of every lane, and the number of the chunk it was found in. -/
abbrev Acc (F : FTy → Type) := FVec F S32x256 .f32 × IVec S32x256 32

/-- One chunk: the block's logarithms plus the noise, against the running maximum. -/
def chunk (base : IVec S32x256 32) (cid off : BitVec 32) (blk : FVec F S32x256 .f32) (acc : Acc F) : Acc F :=
  let v := addf (log (shapeCast S32x256 blk shapeCasts_S32x256_S32x256)) (noise (bits (plus base off)))
  (maximumf acc.1 v, select (cmpf .ogt v acc.1) (broadcast S32x256 cid) acc.2)

/-- The `u`-th chunk of trip `k`. -/
def tripChunk (i : grid0.Coords) (arg1 : Memref sig .tc .vmem S32x100352 .f32)
    (X : BufTy.Contents (Elt F) arg1.view.ty) (k : Fin k0_t1_loop.trips) (u : Fin 16) (acc : Acc F) : Acc F :=
  chunk (k0_pay673 i) (Scalar.addi (Scalar.muli (Scf.iv 0#32 1#32 k) 16#32) (BitVec.ofNat 32 u.val))
    (Scalar.addi (Scalar.muli (Scf.iv 0#32 1#32 k) 4096#32) (BitVec.ofNat 32 (256 * u.val)))
    (View.readAt (Elt F) arg1.view (Rect.unit (s := S32x100352) (k0_off1 k (BitVec.ofNat 32 (256 * u.val)))
      S32x256.size (k0_off1_inb k u)).toLoadRect X) acc

/-- One trip is its sixteen chunks in order. -/
theorem trip_eq (𝒱 : Variants) (c : Dev nD) (bd : Option 𝒱.V) (i : grid0.Coords)
    (arg1 : Memref sig .tc .vmem S32x100352 .f32) (harg1 : arg1.IsWhole)
    (arg2 : Memref sig .tc .vmem S32x128 .i32) (harg2 : arg2.IsWhole)
    (X : BufTy.Contents (Elt F) arg1.view.ty) (k : Fin k0_t1_loop.trips) (acc : Acc F) :
    tripR_k0_t1 (F := F) 𝒱 c bd i arg1 harg1 arg2 harg2 X k acc
      = tripChunk i arg1 X k 15 (tripChunk i arg1 X k 14 (tripChunk i arg1 X k 13 (tripChunk i arg1 X k 12
        (tripChunk i arg1 X k 11 (tripChunk i arg1 X k 10 (tripChunk i arg1 X k 9 (tripChunk i arg1 X k 8
        (tripChunk i arg1 X k 7 (tripChunk i arg1 X k 6 (tripChunk i arg1 X k 5 (tripChunk i arg1 X k 4
        (tripChunk i arg1 X k 3 (tripChunk i arg1 X k 2 (tripChunk i arg1 X k 1 (tripChunk i arg1 X k 0
          acc))))))))))))))) := by
  unfold tripR_k0_t1 trip_k0_t1
  with_unfolding_all rfl

end Cert.KernelIdeal.Chunk
-- ==== Proof.Draw.lean ====
/- The random words and the Gumbel noise of one cell, on scalars: the counter generator with two 32-bit key words and
   two counter words as the reference runs it, the shorter form the kernel runs for the key (0, 42) and a high counter
   word of zero, and the noise at the extended reals. -/
module

public import Idealize.ShloMosaic.PureOps
public import Idealize.ShloMosaic.PureOps.Ideal
public import Idealize.ShloMosaic.PureOps.Ideal.Laws

@[expose] public section

noncomputable section

namespace Cert.Draw

open Idealize.ShloMosaic

/-- One mixing step on the unit `u`: the second word turned left by `l` (`r = 32 - l`), combined with the sum `s`. -/
def mix (u : ArithUnit) (l r s y : BitVec 32) : BitVec 32 :=
  IntOp.xori (IntOp.ori (IntOp.shli u y l) (IntOp.shrui u y r)) s

/-- The generator's state: its two words. -/
abbrev St := BitVec 32 × BitVec 32

/-- One round: the words added, then the second one mixed. -/
def step (u : ArithUnit) (l r : BitVec 32) (p : St) : St :=
  (IntOp.addi p.1 p.2, mix u l r (IntOp.addi p.1 p.2) p.2)

/-- The even group of four rounds after its first one. -/
def tailA (u : ArithUnit) (p : St) : St := step u 6 26 (step u 26 6 (step u 15 17 p))

/-- The even group of four rounds. -/
def groupA (u : ArithUnit) (p : St) : St := tailA u (step u 13 19 p)

/-- The odd group of four rounds. -/
def groupB (u : ArithUnit) (p : St) : St := step u 24 8 (step u 16 16 (step u 29 3 (step u 17 15 p)))

/-- Key words added to both words. -/
def inject (a b : BitVec 32) (p : St) : St := (IntOp.addi p.1 a, IntOp.addi p.2 b)

/-- The two words combined. -/
def out (p : St) : BitVec 32 := IntOp.xori p.1 p.2

/-- The random word the kernel draws for the counter `x` (the key word 42 already added). -/
def word (u : ArithUnit) (x : BitVec 32) : BitVec 32 :=
  out (inject 466689008 5 (groupA u (inject 42 466689012 (groupB u (inject 0 45 (groupA u (inject 466689008 2
    (groupB u (inject 42 466689009 (tailA u (x, mix u 13 19 x x)))))))))))

/-- One round in the reference's order of operands. -/
def stepR (l r : BitVec 32) (p : St) : St :=
  (IntOp.addi p.1 p.2, IntOp.xori (IntOp.addi p.1 p.2) (IntOp.ori (IntOp.shli .host p.2 l) (IntOp.shrui .host p.2 r)))

/-- The even group of four rounds, as the reference runs it. -/
def groupAR (p : St) : St := stepR 6 26 (stepR 26 6 (stepR 15 17 (stepR 13 19 p)))

/-- The odd group of four rounds, as the reference runs it. -/
def groupBR (p : St) : St := stepR 24 8 (stepR 16 16 (stepR 29 3 (stepR 17 15 p)))

/-- Key words and the number of the group added. -/
def injectR (a b n : BitVec 32) (p : St) : St := (IntOp.addi p.1 a, IntOp.addi (IntOp.addi p.2 b) n)

/-- The two words the reference's generator makes of the key `(k0, k1)` and the counter `(c0, c1)`. -/
def pairR (k0 k1 c0 c1 : BitVec 32) : St :=
  injectR (IntOp.xori (IntOp.xori k0 k1) 466688986) k0 5 (groupAR
    (injectR k1 (IntOp.xori (IntOp.xori k0 k1) 466688986) 4 (groupBR
    (injectR k0 k1 3 (groupAR
    (injectR (IntOp.xori (IntOp.xori k0 k1) 466688986) k0 2 (groupBR
    (injectR k1 (IntOp.xori (IntOp.xori k0 k1) 466688986) 1 (groupAR
      (IntOp.addi c0 k0, IntOp.addi c1 k1))))))))))

theorem stepR_eq (u : ArithUnit) (l r : BitVec 32) (hl : l.toNat < 32) (hr : r.toNat < 32) :
    stepR l r = step u l r := by
  funext p
  simp only [stepR, step, mix, IntOp.xori, IntOp.shli, IntOp.shrui, hl, hr, if_true, BitVec.xor_comm]

theorem groupAR_eq (u : ArithUnit) : groupAR = groupA u := by
  funext p
  simp only [groupAR, groupA, tailA, stepR_eq u 6 26 (by decide) (by decide), stepR_eq u 26 6 (by decide) (by decide),
    stepR_eq u 15 17 (by decide) (by decide), stepR_eq u 13 19 (by decide) (by decide)]

theorem groupBR_eq (u : ArithUnit) : groupBR = groupB u := by
  funext p
  simp only [groupBR, groupB, stepR_eq u 24 8 (by decide) (by decide), stepR_eq u 16 16 (by decide) (by decide),
    stepR_eq u 29 3 (by decide) (by decide), stepR_eq u 17 15 (by decide) (by decide)]

theorem injectR_eq (a b n b' : BitVec 32) (h : b + n = b') : injectR a b n = inject a b' := by
  funext p
  simp only [injectR, inject, IntOp.addi, BitVec.add_assoc, h]

/-- For the key (0, 42) and the counter (0, c) the reference's words combine to the kernel's word of `c + 42`. -/
theorem out_pairR (u : ArithUnit) (c : BitVec 32) : out (pairR 0 42 0 c) = word u (c + 42) := by
  have hk : IntOp.xori (IntOp.xori (0 : BitVec 32) 42) 466688986 = 466689008 := by decide
  have h0 : groupA u (IntOp.addi (0 : BitVec 32) 0, IntOp.addi c 42) = tailA u (c + 42, mix u 13 19 (c + 42) (c + 42)) := by
    simp [groupA, step, IntOp.addi]
  unfold pairR word
  rw [hk, groupAR_eq u, groupBR_eq u, injectR_eq _ _ 5 5 (by decide), injectR_eq _ _ 4 466689012 (by decide),
    injectR_eq _ _ 3 45 (by decide), injectR_eq _ _ 2 2 (by decide), injectR_eq _ _ 1 466689009 (by decide), h0]

/-- The uniform variate in [0, 1) made of the random word `w`: 23 of its bits as a mantissa of a number in [1, 2),
    less one. -/
def unif (w : BitVec 32) : EReal :=
  (FloatOps.ofBits (F := Ideal) .f32 (IntOp.ori (IntOp.shrui .vector w 9#32) 1065353216#32) : EReal)
    - (FloatOps.ofBits (F := Ideal) .f32 0x3F800000#32 : EReal)

/-- The Gumbel noise made of the random word `w`. -/
def noise (w : BitVec 32) : EReal := -(Ideal.log (-(Ideal.log (unif w))))

/-- The score of one cell: the logarithm of its frequency plus the noise. -/
def score (f : EReal) (w : BitVec 32) : EReal := Ideal.log f + noise w

/-- The counter of a cell, with the key word added. -/
def counter (row col : ℕ) : BitVec 32 := BitVec.ofNat 32 (row * 100000 + col + 42)

/-- The score of column `col` in row `row`, for the frequencies `X`. -/
def rowScore (X : Fin 100000 → EReal) (row col : ℕ) : EReal :=
  if h : col < 100000 then score (X ⟨col, h⟩) (word .vector (counter row col)) else ⊥

end Cert.Draw
-- ==== Proof.FirstMax.lean ====
/- The first index at which a sequence of extended reals is greatest: uniqueness, extension by one term, and the first
   maximum of a sequence from the first maxima of its lanes. -/
module

public import Mathlib.Data.EReal.Basic

@[expose] public section

namespace Cert.FirstMax

/-- `i` is the first index below `n` at which `s` is greatest. -/
def First (s : ℕ → EReal) (n i : ℕ) : Prop :=
  i < n ∧ (∀ k < n, s k ≤ s i) ∧ ∀ k < i, s k < s i

/-- There is only one such index. -/
theorem First.unique {s : ℕ → EReal} {n i j : ℕ} (hi : First s n i) (hj : First s n j) : i = j := by
  rcases lt_trichotomy i j with h | h | h
  · exact absurd (hj.2.2 i h) (not_lt.2 (hi.2.1 j hj.1))
  · exact h
  · exact absurd (hi.2.2 j h) (not_lt.2 (hj.2.1 i hi.1))

/-- Below one there is only index zero. -/
theorem First.one (s : ℕ → EReal) : First s 1 0 :=
  ⟨Nat.one_pos, fun k hk => by rw [Nat.lt_one_iff.1 hk], fun k hk => absurd hk (Nat.not_lt_zero k)⟩

/-- One more term that is not greater leaves the index. -/
theorem First.keep {s : ℕ → EReal} {n i : ℕ} (h : First s n i) (hn : s n ≤ s i) : First s (n + 1) i :=
  ⟨Nat.lt_succ_of_lt h.1, fun k hk => by
    rcases Nat.lt_succ_iff_lt_or_eq.1 hk with hk | rfl
    · exact h.2.1 k hk
    · exact hn, h.2.2⟩

/-- One more term that is greater becomes the index. -/
theorem First.move {s : ℕ → EReal} {n i : ℕ} (h : First s n i) (hn : s i < s n) : First s (n + 1) n :=
  ⟨Nat.lt_succ_self n, fun k hk => by
    rcases Nat.lt_succ_iff_lt_or_eq.1 hk with hk | rfl
    · exact (h.2.1 k hk).trans hn.le
    · exact le_rfl, fun k hk => (h.2.1 k hk).trans_lt hn⟩

/-- The first maximum only looks at the terms below `n`. -/
theorem First.congr {s t : ℕ → EReal} {n i : ℕ} (h : First s n i) (e : ∀ k < n, s k = t k) : First t n i :=
  ⟨h.1, fun k hk => by rw [← e k hk, ← e i h.1]; exact h.2.1 k hk, fun k hk => by
    rw [← e k (hk.trans h.1), ← e i h.1]; exact h.2.2 k hk⟩

/-- Terms that are `-∞` past `n` do not change the first maximum. -/
theorem First.shrink {s : ℕ → EReal} {m n i : ℕ} (h : First s m i) (hn : 0 < n) (hm : n ≤ m)
    (hb : ∀ k, n ≤ k → k < m → s k = ⊥) : First s n i := by
  have hi : i < n := by
    by_contra hc
    have h0 := h.2.2 0 (by omega)
    rw [hb i (by omega) h.1] at h0
    exact absurd h0 not_lt_bot
  exact ⟨hi, fun k hk => h.2.1 k (by omega), h.2.2⟩

/-- A sequence laid out over `L` lanes, term `L * n + l` being the `n`-th of lane `l`: with the first maximum `i l` of
    each lane, the smallest `L * i l + l` among the lanes whose maximum is the greatest of all is the first maximum
    of the sequence. -/
theorem first_of_lanes {s : ℕ → EReal} {L N : ℕ} (hL : 0 < L) (i : ℕ → ℕ) (M : EReal) (c : ℕ)
    (hi : ∀ l < L, First (fun n => s (L * n + l)) N (i l))
    (hM : ∀ l < L, s (L * i l + l) ≤ M)
    (hc : ∃ l < L, c = L * i l + l ∧ s c = M)
    (hmin : ∀ l < L, s (L * i l + l) = M → c ≤ L * i l + l) : First s (L * N) c := by
  obtain ⟨l₀, hl₀, hcl, hsc⟩ := hc
  have hdiv : ∀ k, L * (k / L) + k % L = k := fun k => Nat.div_add_mod k L
  have hle : ∀ k < L * N, s k ≤ M := fun k hk => by
    have hl := Nat.mod_lt k hL
    have h1 := (hi _ hl).2.1 (k / L) (Nat.div_lt_of_lt_mul hk)
    simp only [hdiv] at h1
    exact h1.trans (hM _ hl)
  refine ⟨?_, fun k hk => hsc ▸ hle k hk, fun k hk => ?_⟩
  · have h1 := (hi l₀ hl₀).1
    calc c = L * i l₀ + l₀ := hcl
      _ < L * i l₀ + L := by omega
      _ = L * (i l₀ + 1) := by ring
      _ ≤ L * N := Nat.mul_le_mul_left _ h1
  · have hcN : c < L * N := by
      have h1 := (hi l₀ hl₀).1
      calc c = L * i l₀ + l₀ := hcl
        _ < L * i l₀ + L := by omega
        _ = L * (i l₀ + 1) := by ring
        _ ≤ L * N := Nat.mul_le_mul_left _ h1
    rw [hsc]
    refine lt_of_le_of_ne (hle k (hk.trans hcN)) fun he => ?_
    have hl := Nat.mod_lt k hL
    have h1 := (hi _ hl).2.1 (k / L) (Nat.div_lt_of_lt_mul (hk.trans hcN))
    have h2 : i (k % L) ≤ k / L := by
      by_contra hlt
      have h3 := (hi _ hl).2.2 (k / L) (by omega)
      simp only [hdiv] at h3
      rw [he] at h3
      exact absurd h3 (not_lt.2 (hM _ hl))
    simp only [hdiv] at h1
    have h4 := hmin _ hl (le_antisymm (hM _ hl) (he ▸ h1))
    have h5 : L * i (k % L) + k % L ≤ k := by
      have := hdiv k
      have := Nat.mul_le_mul_left L h2
      omega
    omega

end Cert.FirstMax
-- ==== Proof.ChunkAt.lean ====
/- One chunk read at a cell: the running maximum and the chunk number after it, in terms of the cell's score. -/
module

public import proofs.«01_k».proof.Proof.Chunk
public import proofs.«01_k».proof.Proof.Draw
public import proofs.«01_k».proof.Proof.FirstMax
public import Idealize.ShloMosaic.Lib.Pipeline.ValueKit

@[expose] public section

set_option maxRecDepth 65536

noncomputable section

namespace Cert.KernelIdeal.Chunk

open Idealize.ShloMosaic Idealize.ShloMosaic.TcCoe
open Cert.KernelIdeal Cert.KernelIdeal.Gen Cert.Draw Cert.FirstMax

section
variable {j : S32x256.Idx} {s y : IVec S32x256 32} {p : St}

/-- One round on the vectors is one round on the cell's words. -/
theorem step_at (l r : BitVec 32) (h : (s j, y j) = p) :
    ((addi s y) j, Chunk.mix l r (addi s y) y j) = step .vector l r p := by subst h; rfl

/-- The key words added on the vectors are added to the cell's words. -/
theorem plus_at (a b : BitVec 32) (h : (s j, y j) = p) : (plus s a j, plus y b j) = inject a b p := by subst h; rfl

/-- The combined words at a cell. -/
theorem out_at (h : (s j, y j) = p) : xori s y j = out p := by subst h; rfl

end

/-- The random words at a cell are the word of the cell's counter. -/
theorem bits_apply (x : IVec S32x256 32) (j : S32x256.Idx) : bits x j = word .vector (x j) := by
  have h1 : (x j, Chunk.mix 13#32 19#32 x x j) = (x j, Draw.mix .vector 13#32 19#32 (x j) (x j)) := rfl
  exact out_at (plus_at _ _ (step_at _ _ (step_at _ _ (step_at _ _ (step_at _ _ (plus_at _ _ (step_at _ _ (step_at _ _
    (step_at _ _ (step_at _ _ (plus_at _ _ (step_at _ _ (step_at _ _ (step_at _ _ (step_at _ _ (plus_at _ _
    (step_at _ _ (step_at _ _ (step_at _ _ (step_at _ _ (plus_at _ _ (step_at _ _ (step_at _ _ (step_at _ _ h1))))))))))))))))))))))))

/-- The noise at a cell. -/
theorem noise_apply (w : IVec S32x256 32) (j : S32x256.Idx) :
    Chunk.noise (F := Ideal) w j = Draw.noise (w j) := by
  have h0 : (FloatOps.ofBits (F := Ideal) .f32 0x00000000#32 : EReal) = 0 := Ideal.ofBits_zero_f32
  show ((FloatOps.ofBits (F := Ideal) .f32 0x00000000#32 : EReal) - Ideal.log
    ((FloatOps.ofBits (F := Ideal) .f32 0x00000000#32 : EReal) - Ideal.log (unif (w j)))) = _
  rw [h0, zero_sub, zero_sub]; rfl

/-- The counters of a chunk, as words: a row number `a` turned into a counter. -/
theorem counter_eq (a r m l : ℕ) :
    ((BitVec.ofNat 32 a * 32#32 + BitVec.ofNat 32 r) * 100000#32 + BitVec.ofNat 32 l + 42#32) + BitVec.ofNat 32 m
      = counter (32 * a + r) (m + l) := by
  unfold counter
  simp only [← BitVec.ofNat_add, ← BitVec.ofNat_mul]
  exact congrArg (BitVec.ofNat 32) (by ring)

/-- The words of the counters a chunk starts from. -/
theorem plus_base_apply (i : grid0.Coords) (n : ℕ) (j : S32x256.Idx) :
    plus (k0_pay673 i) (BitVec.ofNat 32 (256 * n)) j
      = counter (32 * (i 0).val + (j 0).val) (256 * n + (j 1).val) := by
  rw [← counter_eq]
  have h0 := iota_single_apply .tc S32x256 32 0 iota_S32x256_d0_w32 j
  have h1 := iota_single_apply .tc S32x256 32 1 iota_S32x256_d1_w32 j
  rw [← h0, ← h1]
  rfl

/-- A chunk at a cell. -/
theorem chunk_apply (i : grid0.Coords) (n : ℕ) (blk : FVec Ideal S32x256 .f32) (acc : Acc Ideal) (j : S32x256.Idx)
    (v : EReal) (hv : v = score (blk j) (word .vector (counter (32 * (i 0).val + (j 0).val) (256 * n + (j 1).val)))) :
    (chunk (k0_pay673 i) (BitVec.ofNat 32 n) (BitVec.ofNat 32 (256 * n)) blk acc).1 j = max (acc.1 j : EReal) v
    ∧ (chunk (k0_pay673 i) (BitVec.ofNat 32 n) (BitVec.ofNat 32 (256 * n)) blk acc).2 j
      = if (acc.1 j : EReal) < v then BitVec.ofNat 32 n else acc.2 j := by
  have he : (addf (log (shapeCast S32x256 blk shapeCasts_S32x256_S32x256))
      (Chunk.noise (F := Ideal) (bits (plus (k0_pay673 i) (BitVec.ofNat 32 (256 * n)))))) j = v := by
    rw [hv, shapeCast_self]
    show Ideal.log (blk j) + Chunk.noise (F := Ideal) _ j = _
    rw [noise_apply, bits_apply, plus_base_apply]; rfl
  constructor
  · show max (acc.1 j : EReal) _ = _
    rw [← he]
  · show Scalar.select (Ideal.cmp .ogt _ (acc.1 j)) _ _ = _
    rw [he]
    by_cases hlt : (acc.1 j : EReal) < v <;> simp [Scalar.select, Ideal.cmp, hlt, broadcast]

end Cert.KernelIdeal.Chunk
-- ==== Proof.Body.lean ====
/- What the kernel's body stores at one grid point: the loop's trips, the eight chunks after the loop, and the final
   choice of the smallest column among the lanes that hold the row's maximum. -/
module

public import proofs.«01_k».proof.Proof.Gen.KernelIdeal.Frame
public import proofs.«01_k».proof.Proof.Chunk
public import Idealize.ShloMosaic.Lib.Pipeline.ValueKit
import all proofs.«01_k».proof.Proof.Gen.KernelIdeal.Frame.RunA

@[expose] public section

set_option maxRecDepth 65536

noncomputable section

namespace Cert.KernelIdeal.Chunk

open Idealize.ShloMosaic Idealize.ShloMosaic.TcCoe
open Cert.KernelIdeal Cert.KernelIdeal.Gen

variable {F : FTy → Type} [FloatOps F]

/-- The `u`-th chunk after the loop, at chunk number 384 + u. -/
def tailChunk (i : grid0.Coords) (arg1 : Memref sig .tc .vmem S32x100352 .f32)
    (X : BufTy.Contents (Elt F) arg1.view.ty) (u : Fin 8)
    (inb : ∀ a, (![0, 98304 + 256 * u.val] : Fin 2 → Nat) a + S32x256.size a ≤ S32x100352.size a)
    (acc : Acc F) : Acc F :=
  chunk (k0_pay673 i) (BitVec.ofNat 32 (384 + u.val)) (BitVec.ofNat 32 (98304 + 256 * u.val))
    (View.readAt (Elt F) arg1.view (Rect.unit (s := S32x100352) ![0, 98304 + 256 * u.val]
      S32x256.size inb).toLoadRect X) acc

/-- The column each lane's best draw sits in. -/
def cols (bi : IVec S32x256 32) : IVec S32x256 32 :=
  addi (muli bi (broadcast S32x256 256#32)) (iota .tc S32x256 32 [1] iota_S32x256_d1_w32)

/-- The row's maximum, on every lane. -/
def rowMax (bv : FVec F S32x256 .f32) : FVec F S32x256 .f32 :=
  broadcastTo S32x256 (shapeCast S32x1
    (multiReduction .maximumf [1] S32 bv 0xFF800000#32 reduces_S32x256_S32 (.inl rfl) rfl) shapeCasts_S32_S32x1)
    broadcasts_S32x1_S32x256

/-- The smallest column whose lane attains the row's maximum. -/
def best (acc : Acc F) : IVec S32 32 :=
  multiReductionI .minsi [1] S32
    (select (cmpf .oeq acc.1 (rowMax acc.1)) (cols acc.2) (broadcast S32x256 1073741824#32))
    2147483647#32 reduces_S32x256_S32 rfl

/-- The stored block: the chosen column of each row, on every lane. -/
def finish (acc : Acc F) : IVec S32x128 32 :=
  broadcastTo S32x128 (shapeCast S32x1 (shapeCast S32x1 (best acc) shapeCasts_S32_S32x1) shapeCasts_S32x1_S32x1)
    broadcasts_S32x1_S32x128

/-- What the loop carries before trip `k`. -/
abbrev carried (c : Dev nD) (i : grid0.Coords) (arg1 : Memref sig .tc .vmem S32x100352 .f32) (harg1 : arg1.IsWhole)
    (arg2 : Memref sig .tc .vmem S32x128 .i32) (harg2 : arg2.IsWhole) (x : Vec F S32x100352 .f32) (k : ℕ) : Acc F :=
  st_k0_t1 Variants.none c none i arg1 harg1 arg2 harg2 (harg1.unread x) (k0_pay674, k0_pay675) k

/-- The body's one store, as chunks. -/
theorem body_eq (c : Dev nD) (i : grid0.Coords) (arg1 : Memref sig .tc .vmem S32x100352 .f32) (harg1 : arg1.IsWhole)
    (arg2 : Memref sig .tc .vmem S32x128 .i32) (harg2 : arg2.IsWhole) (x : Vec F S32x100352 .f32) :
    (kernelRun0_A (F := F) c i arg1 harg1 arg2 harg2 x).1
      = [⟨Rect.unit ![0, 0] S32x128.size inb_S32x128_S32x128_0_0,
          finish (tailChunk i arg1 (harg1.unread x) 7 inb_S32x100352_S32x256_0_100096
            (tailChunk i arg1 (harg1.unread x) 6 inb_S32x100352_S32x256_0_99840
            (tailChunk i arg1 (harg1.unread x) 5 inb_S32x100352_S32x256_0_99584
            (tailChunk i arg1 (harg1.unread x) 4 inb_S32x100352_S32x256_0_99328
            (tailChunk i arg1 (harg1.unread x) 3 inb_S32x100352_S32x256_0_99072
            (tailChunk i arg1 (harg1.unread x) 2 inb_S32x100352_S32x256_0_98816
            (tailChunk i arg1 (harg1.unread x) 1 inb_S32x100352_S32x256_0_98560
            (tailChunk i arg1 (harg1.unread x) 0 inb_S32x100352_S32x256_0_98304
              (carried c i arg1 harg1 arg2 harg2 x 24)))))))))⟩] := by
  unfold kernelRun0_A
  with_unfolding_all rfl

end Cert.KernelIdeal.Chunk
-- ==== Proof.Fold.lean ====
/- What the kernel's loop carries: after n chunks every lane holds the first maximum of its n scores and the number of
   the chunk that maximum is in. -/
module

public import proofs.«01_k».proof.Proof.ChunkAt
public import proofs.«01_k».proof.Proof.Body

@[expose] public section

set_option maxRecDepth 65536

noncomputable section

namespace Cert.KernelIdeal.Chunk

open Idealize.ShloMosaic Idealize.ShloMosaic.TcCoe
open Cert.KernelIdeal Cert.KernelIdeal.Gen Cert.Draw Cert.FirstMax

/-- The pattern of minus infinity. -/
theorem ofBits_negInf : (FloatOps.ofBits (F := Ideal) .f32 0xFF800000#32 : EReal) = ⊥ := by
  simp [Ideal.ofBits, Ideal.ieee]

/-- The score of column `c` in row `r` of the block at grid point `i`. -/
def cell (x : Vec Ideal S32x100352 .f32) (i : grid0.Coords) (r : Fin 32) (c : ℕ) : EReal :=
  if h : c < 100352 then
    score (x (ix2 r ⟨c, h⟩)) (word .vector (counter (32 * (i 0).val + r.val) c))
  else ⊥

/-- After `n` chunks every lane carries the first maximum of its `n` scores and that score's chunk number. -/
def Inv (x : Vec Ideal S32x100352 .f32) (i : grid0.Coords) (n : ℕ) (acc : Acc Ideal) : Prop :=
  ∀ j : S32x256.Idx, (n = 0 ∧ acc.1 j = (⊥ : EReal) ∧ acc.2 j = 0#32) ∨
    ∃ m, First (fun n => cell x i (j 0) (256 * n + (j 1).val)) n m ∧ acc.2 j = BitVec.ofNat 32 m
      ∧ acc.1 j = cell x i (j 0) (256 * m + (j 1).val)

/-- One more chunk. -/
theorem chunk_inv {x : Vec Ideal S32x100352 .f32} {i : grid0.Coords} {n : ℕ} {acc : Acc Ideal} (h : Inv x i n acc)
    {blk : FVec Ideal S32x256 .f32}
    (hb : ∀ j : S32x256.Idx, ∃ hc : 256 * n + (j 1).val < 100352, blk j = x (ix2 (j 0) ⟨256 * n + (j 1).val, hc⟩)) :
    Inv x i (n + 1) (chunk (k0_pay673 i) (BitVec.ofNat 32 n) (BitVec.ofNat 32 (256 * n)) blk acc) := by
  intro j
  obtain ⟨hc, hx⟩ := hb j
  obtain ⟨h1, h2⟩ := chunk_apply i n blk acc j (cell x i (j 0) (256 * n + (j 1).val)) (by
    unfold cell; rw [dif_pos hc, hx])
  rw [h1, h2]
  right
  rcases h j with ⟨rfl, ha, hi⟩ | ⟨m, hf, hi, ha⟩
  · refine ⟨0, First.one _, ?_, ?_⟩
    · rw [hi]; split <;> rfl
    · rw [ha]; exact max_eq_right bot_le
  · rw [ha, hi]
    by_cases hlt : cell x i (j 0) (256 * m + (j 1).val) < cell x i (j 0) (256 * n + (j 1).val)
    · exact ⟨n, First.move hf hlt, if_pos hlt, max_eq_right hlt.le⟩
    · exact ⟨m, First.keep hf (not_lt.1 hlt), if_neg hlt, max_eq_left (not_lt.1 hlt)⟩

section
variable (c : Dev nD) (i : grid0.Coords) (arg1 : Memref sig .tc .vmem S32x100352 .f32) (harg1 : arg1.IsWhole)
  (arg2 : Memref sig .tc .vmem S32x128 .i32) (harg2 : arg2.IsWhole) (x : Vec Ideal S32x100352 .f32)

/-- A block of 256 columns read from the window. -/
theorem block_read (n : ℕ) (hn : n < 392) (off : Fin 2 → ℕ) (ho : off = ![0, 256 * n]) (inb)
    (j : S32x256.Idx) : ∃ hc : 256 * n + (j 1).val < 100352,
      View.readAt (Elt Ideal) arg1.view (Rect.unit (s := S32x100352) off S32x256.size inb).toLoadRect
        (harg1.unread x) j = x (ix2 (j 0) ⟨256 * n + (j 1).val, hc⟩) := by
  have hj : (j 1).val < 256 := (j 1).isLt
  refine ⟨by omega, ?_⟩
  subst ho
  rw [View.readAt_eq_ld, harg1.read_unread]
  refine View.ld_unit_apply_of x _ _ _ j _ fun a => ?_
  match a with
  | 0 => exact (Nat.zero_add _).symm
  | 1 => rfl

/-- One chunk of a trip. -/
theorem tripChunk_inv (k : Fin k0_t1_loop.trips) (u : Fin 16) {n : ℕ} (hn : n = 16 * k.val + u.val) {acc : Acc Ideal}
    (h : Inv x i n acc) : Inv x i (n + 1) (tripChunk i arg1 (harg1.unread x) k u acc) := by
  have hk : k.val < 24 := Nat.lt_of_lt_of_le k.isLt k0_t1_abs.2.1
  have hu := u.isLt
  have e1 : Scalar.addi (Scalar.muli (Scf.iv 0#32 1#32 k) 16#32) (BitVec.ofNat 32 u.val) = BitVec.ofNat 32 n := by
    show (0#32 + BitVec.ofNat 32 k.val * 1#32) * 16#32 + BitVec.ofNat 32 u.val = _
    rw [hn]
    apply BitVec.eq_of_toNat_eq
    simp; omega
  have e2 : Scalar.addi (Scalar.muli (Scf.iv 0#32 1#32 k) 4096#32) (BitVec.ofNat 32 (256 * u.val))
      = BitVec.ofNat 32 (256 * n) := by
    show (0#32 + BitVec.ofNat 32 k.val * 1#32) * 4096#32 + BitVec.ofNat 32 (256 * u.val) = _
    rw [hn]
    apply BitVec.eq_of_toNat_eq
    simp; omega
  unfold tripChunk
  rw [e1, e2]
  exact chunk_inv h (block_read arg1 harg1 x n (by omega) _ ((k0_off1_eq k u).trans (by
    rw [show 4096 * k.val + 256 * u.val = 256 * n by omega])) _)

/-- One trip of the loop. -/
theorem trip_inv (k : Fin k0_t1_loop.trips) {acc : Acc Ideal} (h : Inv x i (16 * k.val) acc) :
    Inv x i (16 * (k.val + 1)) (tripR_k0_t1 Variants.none c none i arg1 harg1 arg2 harg2 (harg1.unread x) k acc) := by
  rw [trip_eq]
  have s (u : Fin 16) {n : ℕ} {acc : Acc Ideal} (hn : n = 16 * k.val + u.val) (h : Inv x i n acc) :=
    tripChunk_inv i arg1 harg1 x k u hn h
  exact s 15 rfl (s 14 rfl (s 13 rfl (s 12 rfl (s 11 rfl (s 10 rfl (s 9 rfl (s 8 rfl (s 7 rfl (s 6 rfl (s 5 rfl (s 4 rfl
    (s 3 rfl (s 2 rfl (s 1 rfl (s 0 rfl h)))))))))))))))

/-- What the loop carries before trip `k`. -/
theorem carried_inv (k : ℕ) (hk : k ≤ k0_t1_loop.trips) :
    Inv x i (16 * k) (carried c i arg1 harg1 arg2 harg2 x k) := by
  induction k with
  | zero => exact fun j => .inl ⟨rfl, ofBits_negInf, rfl⟩
  | succ k ih =>
    have e := st_k0_t1_succ (F := Ideal) Variants.none c none i arg1 harg1 arg2 harg2 (harg1.unread x)
      (k0_pay674, k0_pay675) ⟨k, hk⟩
    unfold carried
    rw [e]
    exact trip_inv c i arg1 harg1 arg2 harg2 x ⟨k, hk⟩ (ih (Nat.le_of_succ_le hk))

/-- One chunk after the loop. -/
theorem tailChunk_inv (u : Fin 8) {n : ℕ} (hn : n = 384 + u.val) (inb) {acc : Acc Ideal} (h : Inv x i n acc) :
    Inv x i (n + 1) (tailChunk i arg1 (harg1.unread x) u inb acc) := by
  have hu := u.isLt
  unfold tailChunk
  subst hn
  have e : 98304 + 256 * u.val = 256 * (384 + u.val) := by omega
  have := chunk_inv h (block_read arg1 harg1 x (384 + u.val) (by omega) ![0, 98304 + 256 * u.val] (by rw [e]) inb)
  rw [← e] at this
  exact this

/-- What the kernel has before the final choice. -/
abbrev full : Acc Ideal :=
  tailChunk i arg1 (harg1.unread x) 7 inb_S32x100352_S32x256_0_100096
    (tailChunk i arg1 (harg1.unread x) 6 inb_S32x100352_S32x256_0_99840
    (tailChunk i arg1 (harg1.unread x) 5 inb_S32x100352_S32x256_0_99584
    (tailChunk i arg1 (harg1.unread x) 4 inb_S32x100352_S32x256_0_99328
    (tailChunk i arg1 (harg1.unread x) 3 inb_S32x100352_S32x256_0_99072
    (tailChunk i arg1 (harg1.unread x) 2 inb_S32x100352_S32x256_0_98816
    (tailChunk i arg1 (harg1.unread x) 1 inb_S32x100352_S32x256_0_98560
    (tailChunk i arg1 (harg1.unread x) 0 inb_S32x100352_S32x256_0_98304
      (carried c i arg1 harg1 arg2 harg2 x 24))))))))

/-- After all 392 chunks. -/
theorem full_inv : Inv x i 392 (full c i arg1 harg1 arg2 harg2 x) := by
  have h : Inv x i 384 (carried c i arg1 harg1 arg2 harg2 x 24) :=
    carried_inv c i arg1 harg1 arg2 harg2 x 24 (by decide)
  have s (u : Fin 8) {n : ℕ} {acc : Acc Ideal} (hn : n = 384 + u.val) (inb) (h : Inv x i n acc) :=
    tailChunk_inv i arg1 harg1 x u hn inb h
  exact s 7 rfl _ (s 6 rfl _ (s 5 rfl _ (s 4 rfl _ (s 3 rfl _ (s 2 rfl _ (s 1 rfl _ (s 0 rfl _ h)))))))

end

end Cert.KernelIdeal.Chunk
-- ==== Proof.Best.lean ====
/- The kernel's final choice: the smallest column among the lanes holding the row's maximum is the row's first maximum. -/
module

public import proofs.«01_k».proof.Proof.Fold
public import Idealize.ShloMosaic.Lib.SortNet.Extract
public import Idealize.ShloMosaic.PureOps.Ideal.Laws

@[expose] public section

set_option maxRecDepth 65536

noncomputable section

namespace Cert.KernelIdeal.Chunk

open Idealize.ShloMosaic Idealize.ShloMosaic.TcCoe
open Cert.KernelIdeal Cert.KernelIdeal.Gen Cert.Draw Cert.FirstMax

/-- A fold of the maximum from minus infinity over a nonempty index set is at least every value and is one of them. -/
theorem fold_max_spec {n : ℕ} (hn : 0 < n) (f : Fin n → EReal) :
    (∀ k, f k ≤ Finset.univ.fold max ⊥ f) ∧ ∃ k, f k = Finset.univ.fold max ⊥ f := by
  have hle : ∀ k, f k ≤ Finset.univ.fold max ⊥ f := fun k =>
    (Finset.le_fold_max (f k)).2 (.inr ⟨k, Finset.mem_univ _, le_rfl⟩)
  refine ⟨hle, ?_⟩
  rcases (Finset.le_fold_max (Finset.univ.fold max ⊥ f)).1 le_rfl with h | ⟨k, _, h⟩
  · exact ⟨⟨0, hn⟩, le_antisymm (hle _) (h.trans bot_le)⟩
  · exact ⟨k, le_antisymm (hle k) h⟩

/-- A fold of the signed minimum: its integer value is the fold of the integers' minimum. -/
theorem toInt_fold_minsi {n : ℕ} (b : BitVec 32) (f : Fin n → BitVec 32) :
    (Finset.univ.fold IntOp.minsi b f).toInt = Finset.univ.fold min b.toInt fun k => (f k).toInt :=
  (Finset.fold_hom (op' := min) (m := BitVec.toInt) fun x y => SortNet.toInt_minsi x y).symm

/-- The integer value of a small word. -/
theorem toInt_ofNat_small {n : ℕ} (h : n < 2 ^ 31) : (BitVec.ofNat 32 n).toInt = n := by
  rw [BitVec.toInt_eq_toNat_cond, BitVec.toNat_ofNat, Nat.mod_eq_of_lt (by omega), if_pos (by omega)]

/-- The row's maximum as the kernel spreads it over the lanes. -/
theorem rowMax_apply (bv : FVec Ideal S32x256 .f32) (r : Fin 32) (k : Fin 256) :
    rowMax bv (ix2 r k) = (Finset.univ : Finset (Fin 256)).fold max (⊥ : EReal) fun l => bv (ix2 r l) := by
  unfold rowMax
  rw [broadcastTo_apply _ _ (ix2 r k) (ix2 r 0 : S32x1.Idx) (fun a => by match a with | 0 => rfl | 1 => rfl),
    shapeCast_apply _ _ (ix2 r 0 : S32x1.Idx) (ix1 r : S32.Idx) (by
      rw [Shape.rowMajor_val_one, Shape.rowMajor_val_two]; show r.val = r.val * 1 + 0; omega)]
  refine (Ideal.multiReduction_maximumf_single bv _ _ _ _ _).trans ?_
  rw [ofBits_negInf]
  refine congrArg (Finset.fold max (⊥ : EReal) · Finset.univ) (funext fun l => congrArg bv (funext fun a => ?_))
  match a with | 0 => rfl | 1 => rfl

/-- The kernel's choice for a row is the row's first maximum. -/
theorem best_first {x : Vec Ideal S32x100352 .f32} {i : grid0.Coords} {acc : Acc Ideal} (h : Inv x i 392 acc)
    (r : Fin 32) : ∃ cc, First (cell x i r) 100352 cc ∧ best acc (ix1 r) = BitVec.ofNat 32 cc := by
  have hm : ∀ k : Fin 256, ∃ m, First (fun n => cell x i r (256 * n + k.val)) 392 m
      ∧ acc.2 (ix2 r k) = BitVec.ofNat 32 m ∧ acc.1 (ix2 r k) = cell x i r (256 * m + k.val) := fun k => by
    rcases h (ix2 r k) with ⟨h0, _⟩ | h1
    · exact absurd h0 (by decide)
    · exact h1
  choose m hf hi hv using hm
  have hmlt : ∀ k, m k < 392 := fun k => (hf k).1
  obtain ⟨hle, k₀, hk₀⟩ := fold_max_spec (n := 256) (by decide) fun l => (acc.1 (ix2 r l) : EReal)
  set M : EReal := (Finset.univ : Finset (Fin 256)).fold max ⊥ fun l => (acc.1 (ix2 r l) : EReal) with hM
  -- the candidates of the minimum
  let g : Fin 256 → BitVec 32 := fun k =>
    if (acc.1 (ix2 r k) : EReal) = M then BitVec.ofNat 32 (256 * m k + k.val) else 1073741824#32
  have hbest : best acc (ix1 r) = Finset.univ.fold IntOp.minsi 2147483647#32 g := by
    refine (multiReductionI_eq_fold .minsi _ _ reduces_S32x256_S32 rfl (ix1 r)).trans ?_
    refine (Shape.Reduces.fold_filter_drop_single reduces_S32x256_S32 IntOp.minsi _ _ _).trans ?_
    refine congrArg (Finset.fold IntOp.minsi 2147483647#32 · Finset.univ) (funext fun (k : Fin 256) => ?_)
    have el : reduces_S32x256_S32.lift (ix1 r) k = ix2 r k := funext fun a => by
      match a with | 0 => rfl | 1 => rfl
    show Scalar.select (Ideal.cmp .oeq (acc.1 (reduces_S32x256_S32.lift (ix1 r) k))
      (rowMax acc.1 (reduces_S32x256_S32.lift (ix1 r) k))) (cols acc.2 (reduces_S32x256_S32.lift (ix1 r) k))
      1073741824#32 = g k
    rw [el, rowMax_apply, ← hM]
    have hcol : cols acc.2 (ix2 r k) = BitVec.ofNat 32 (256 * m k + k.val) := by
      have h1 := iota_single_apply .tc S32x256 32 1 iota_S32x256_d1_w32 (ix2 r k)
      show acc.2 (ix2 r k) * 256#32 + iota .tc S32x256 32 [1] iota_S32x256_d1_w32 (ix2 r k) = _
      rw [h1, hi, Nat.mul_comm 256, BitVec.ofNat_add, BitVec.ofNat_mul]; rfl
    rw [hcol]
    by_cases he : (acc.1 (ix2 r k) : EReal) = M <;> simp [Scalar.select, Ideal.cmp, he, g]
  have hg : ∀ k, (g k).toInt = if (acc.1 (ix2 r k) : EReal) = M then ((256 * m k + k.val : ℕ) : ℤ) else 1073741824 := by
    intro k
    have := hmlt k
    have := k.isLt
    by_cases he : (acc.1 (ix2 r k) : EReal) = M
    · simp only [g, if_pos he]; exact toInt_ofNat_small (by omega)
    · simp only [g, if_neg he]; rfl
  have hI : (best acc (ix1 r)).toInt = Finset.univ.fold min (2147483647 : ℤ) fun k => (g k).toInt := by
    rw [hbest, toInt_fold_minsi]; rfl
  have hlow : ∀ k, (best acc (ix1 r)).toInt ≤ (g k).toInt := fun k => by
    rw [hI]; exact (Finset.fold_min_le _).2 (.inr ⟨k, Finset.mem_univ _, le_rfl⟩)
  have h0 := hlow k₀
  rw [hg, if_pos hk₀] at h0
  have hm0 := hmlt k₀
  have hl0 := k₀.isLt
  obtain ⟨k₁, hk₁⟩ : ∃ k, (g k).toInt ≤ (best acc (ix1 r)).toInt := by
    rcases (Finset.fold_min_le _).1 hI.ge with hh | ⟨k, _, hk⟩
    · omega
    · exact ⟨k, hk⟩
  have e₁ := le_antisymm hk₁ (hlow k₁)
  have hb₁ : (acc.1 (ix2 r k₁) : EReal) = M := by
    by_contra hne
    rw [hg, if_neg hne] at e₁
    omega
  rw [hg, if_pos hb₁] at e₁
  have hm1 := hmlt k₁
  have hl1 := k₁.isLt
  refine ⟨256 * m k₁ + k₁.val, ?_, BitVec.eq_of_toInt_eq (e₁.symm.trans (toInt_ofNat_small (by omega)).symm)⟩
  refine first_of_lanes (L := 256) (N := 392) (by decide) (fun l => if h : l < 256 then m ⟨l, h⟩ else 0) M _
    (fun l hl => ?_) (fun l hl => ?_) ⟨k₁.val, hl1, ?_, ?_⟩ (fun l hl hs => ?_)
  · simp only [dif_pos hl]; exact hf ⟨l, hl⟩
  · simp only [dif_pos hl]; rw [← hv ⟨l, hl⟩]; exact hle ⟨l, hl⟩
  · simp only [dif_pos hl1]
  · rw [← hv k₁]; exact hb₁
  · simp only [dif_pos hl] at hs ⊢
    have hh := hlow ⟨l, hl⟩
    rw [hg, if_pos ((hv ⟨l, hl⟩).trans hs), ← e₁] at hh
    exact_mod_cast hh

end Cert.KernelIdeal.Chunk
-- ==== Proof.KernelArray.lean ====
/- The kernel's output array: every entry of row `r` is the first maximum of row `r`'s scores. -/
module

public import proofs.«01_k».proof.Proof.Best
public import Idealize.ShloMosaic.Lib.Claim
public import Idealize.ShloMosaic.Lib.KernelVsHost

@[expose] public section

set_option maxRecDepth 65536

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Chunk Cert.Draw Cert.FirstMax

variable (m : (ℓ : Loc nD τ sig) → Buf (Elt Ideal) ℓ)

/-- The windows' index maps. -/
theorem idx : ∀ t : Fin cfg0.N, win0_0.index t = ![0, 0] ∧ win0_1.index t = ![(grid0.coords t 0).val, 0] :=
  (by decide +kernel : ∀ t : Fin grid0.N, _)

/-- The block the body reads is the whole padded array. -/
theorem block_eq (c : Dev nD) (t : Fin cfg0.N) : iblk m c 0 t = V m c main_call0_v2 := by
  blk_ext! [iblk, idx t]

/-- What the body leaves at a point. -/
theorem outs_eq (c : Dev nD) (t : Fin cfg0.N) (y : S32x128.Idx) :
    outsAt0 m c t y = best (full c (grid0.coords t) (ms0_0 t) (hs0_0 t) (ms0_1 t) (hs0_1 t) (iblk m c 0 t))
      (ix1 (y 0)) := by
  unfold outsAt0 out0_A_1
  rw [View.read_writes_junk_apply_eq_canon, body_eq,
    View.canon_unit_zero (by funext a; match a with | 0 => rfl | 1 => rfl)]
  unfold finish
  rw [broadcastTo_apply _ _ y (ix2 (y 0) 0 : S32x1.Idx) (fun a => by match a with | 0 => rfl | 1 => rfl),
    shapeCast_self, shapeCast_apply _ _ (ix2 (y 0) 0 : S32x1.Idx) (ix1 (y 0) : S32.Idx) (by
      rw [Shape.rowMajor_val_one, Shape.rowMajor_val_two]; show (y 0).val = (y 0).val * 1 + 0; omega)]

/-- The zero the array is padded with. -/
theorem zero_word : (sitofp .f32 (constantI S_ 32 0#32) : FVec Ideal S_ .f32) = fun _ => (0 : EReal) := by
  funext i
  show (((0#32 : BitVec 32).toInt : ℝ) : EReal) = 0
  simp

/-- The array the kernel's window stages: the frequencies, padded by zeros, the same in every row. -/
theorem V_eq (c : Dev nD) : V m c main_call0_v2 = broadcastInDim S32x100352 ![0, 1] bcast_S1x100352_S32x100352_0_1
    (shapeCast S1x100352 (pad S100352 ![0] ![352] ![0] (m ((c : Thread nD τ).loc main_arg0) : FVec Ideal S100000 .f32)
      (sitofp .f32 (constantI S_ 32 0#32) : FVec Ideal S_ .f32) pads_S100000_S100352_03520 h_S_)
      shapeCasts_S100352_S1x100352) := rfl

/-- That array at an index. -/
theorem pad_eq (c : Dev nD) (r : Fin 32) (k : Fin 100352) : V m c main_call0_v2 (ix2 r k)
    = if h : k.val < 100000 then m ((c : Thread nD τ).loc main_arg0) (ix1 ⟨k.val, h⟩) else (0 : EReal) := by
  rw [V_eq, zero_word]
  rw [broadcastInDim_apply _ _ _ _ (ix2 0 k : S1x100352.Idx) (fun a => by match a with | 0 => rfl | 1 => rfl),
    shapeCast_apply _ _ (ix2 0 k : S1x100352.Idx) (ix1 k : S100352.Idx) (by
      rw [Shape.rowMajor_val_one, Shape.rowMajor_val_two]; show k.val = 0 * 100352 + k.val; omega)]
  by_cases h : k.val < 100000
  · rw [dif_pos h]
    exact pad_apply_of_inside _ _ _ _ _ _ _ _ (ix1 ⟨k.val, h⟩ : S100000.Idx) fun a => by
      match a with | 0 => show k.val = 0 + k.val * (0 + 1); omega
  · rw [dif_neg h]
    exact pad_apply_of_not_inside _ _ _ _ _ _ _ (ix1 k : S100352.Idx) 0 fun hh => h (by
      have := hh.2.2
      have e : ((ix1 k : S100352.Idx) 0).val = k.val := rfl
      change (k.val - 0) / (0 + 1) < 100000 at this
      omega)

/-- The frequencies. -/
abbrev freq (c : Dev nD) (k : Fin 100000) : EReal := m ((c : Thread nD τ).loc main_arg0) (ix1 k)

/-- Below 100000 a column's score is the row's score. -/
theorem cell_eq (c : Dev nD) (i : grid0.Coords) (r : Fin 32) (k : ℕ) (hk : k < 100000) :
    cell (V m c main_call0_v2) i r k = rowScore (freq m c) (32 * (i 0).val + r.val) k := by
  unfold cell rowScore
  rw [dif_pos hk, dif_pos (by omega), pad_eq, dif_pos hk]

/-- A padded column's score is minus infinity. -/
theorem cell_pad (c : Dev nD) (i : grid0.Coords) (r : Fin 32) (k : ℕ) (hk : 100000 ≤ k) :
    cell (V m c main_call0_v2) i r k = ⊥ := by
  unfold cell
  split
  · rw [pad_eq, dif_neg (Nat.not_lt.2 hk)]
    have hl : Ideal.log 0 = ⊥ := by
      rw [show (0 : EReal) = ((0 : ℝ) : EReal) from rfl]; exact if_pos le_rfl
    unfold score
    rw [hl, EReal.bot_add]
  · rfl

/-- The output array: every entry of row `r` is the first maximum of row `r`'s scores. -/
theorem final (c : Dev nD) (i : S1024x128.Idx) :
    ∃ cc, First (rowScore (freq m c) (i 0).val) 100000 cc
      ∧ (dats m 0 c).arrAt 1 (cfgs 0).N i = BitVec.ofNat 32 cc := by
  refine (dats m 0 c).arrAt_forall_of_covers 1
    (fun i v => ∃ cc, First (rowScore (freq m c) (i 0).val) 100000 cc ∧ v = BitVec.ofNat 32 cc)
    (by decide +kernel) (fun t hf y => ?_) i
  blk_simp [idx t]
  rw [after0_1, outs_eq, block_eq]
  obtain ⟨cc, hcc, he⟩ := best_first (full_inv c (grid0.coords t) (ms0_0 t) (hs0_0 t) (ms0_1 t) (hs0_1 t)
    (V m c main_call0_v2)) (y 0)
  refine ⟨cc, ?_, he⟩
  have h1 := (hcc.shrink (n := 100000) (by decide) (by decide) fun k hk _ => cell_pad m c _ _ k hk).congr
    fun k hk => cell_eq m c _ _ k hk
  rwa [Nat.mul_comm]

end Cert.KernelIdeal.Value
-- ==== Proof.KernelRun.lean ====
/- The kernel's run: its result array holds, row by row, the first maximum of the row's scores. -/
module

public import proofs.«01_k».proof.Proof.KernelArray

@[expose] public section

set_option maxRecDepth 65536

noncomputable section

namespace Cert.KernelIdeal.Value

open Idealize.ShloMosaic Idealize.ShloMosaic.TcCoe Idealize.SL.Sem
open Cert.KernelIdeal Cert.KernelIdeal.Gen Cert.Draw Cert.FirstMax

variable (m : (ℓ : Loc nD τ sig) → Buf (Elt Ideal) ℓ) (ρ : Dev nD → PrngReg)

/-- The result array: column 0 of the kernel's output array. -/
def result (c : Dev nD) : IVec S1024 32 :=
  shapeCast S1024 (extractStridedSlice S1024x1 ![0, 0] ((dats m 0 c).arrAt 1 (cfgs 0).N : IVec S1024x128 32)
    slices_S1024x128_S1024x1_0_0) shapeCasts_S1024x1_S1024

/-- The result at a row is the first maximum of the row's scores. -/
theorem result_first (c : Dev nD) (r : Fin 1024) :
    ∃ cc, First (rowScore (freq m c) r.val) 100000 cc ∧ result m c (ix1 r) = BitVec.ofNat 32 cc := by
  unfold result
  rw [shapeCast_apply _ _ (ix1 r : S1024.Idx) (ix2 r 0 : S1024x1.Idx) (by
    rw [Shape.rowMajor_val_one, Shape.rowMajor_val_two]; show r.val * 1 + 0 = r.val; omega),
    extractStridedSlice_apply _ _ _ _ (ix2 r 0 : S1024x128.Idx) (fun a => by
      match a with | 0 => exact (Nat.zero_add _).symm | 1 => rfl)]
  exact final m c (ix2 r 0)

/-- What the two operations after the kernel leave in the result array. -/
theorem tail_eq (c : Dev nD) (W : Valuation τ sig (Elt Ideal)) :
    StableHlo.after hostOps1 W (Proc.devRef .tc main_v0)
      = shapeCast S1024 (extractStridedSlice S1024x1 ![0, 0] (W (Proc.devRef .tc main_call0_v3) : IVec S1024x128 32)
          slices_S1024x128_S1024x1_0_0) shapeCasts_S1024x1_S1024 := rfl

/-- The result array after the run. -/
theorem out_eq (c : Dev nD) : Pipeline.afterTail₀ cfgs (dats m) 0 (V0 m) [hostOps1] c main_v0 = result m c := by
  have h := Pipeline.withArrays_arr spec0 (by decide) c (V0 m c) (fun w => (dats m 0 c).arrAt w (cfgs 0).N) 1
  have h2 := tail_eq c (Pipeline.withArrays spec0 c (V0 m c) fun w => (dats m 0 c).arrAt w (cfgs 0).N)
  unfold result
  rw [← h]
  exact h2

/-- The run. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)) := by
  have h : θ_run defs (onTc (τ := τ) (main (F := Ideal))) ⟨m, fun _ => 0, ρ⟩ (fun r => ∀ c : Dev nD,
      r.2.mem ((c.tc : Thread nD τ).loc main_v0) = result m c) := by
    run_from Cert.KernelIdeal.Gen.run_main m ρ
    exact out_eq m c
  exact (θ_run defs _ _).mono (fun _ h c => ⟨h.1 c, h.2 c⟩) (θ_run_and h (unchanged m ρ))

end Cert.KernelIdeal.Value
-- ==== Proof.RefAt.lean ====
/- The reference's scores read at a row and a column. -/
module

public import proofs.«01_k».proof.Proof.RefTerm
public import proofs.«01_k».proof.Proof.Draw
public import Idealize.ShloMosaic.Lib.Pointwise.Index
public import Idealize.ShloMosaic.Lib.IdealHost

@[expose] public section

set_option maxRecDepth 65536

noncomputable section

namespace Cert.ReferenceIdeal.Term

open Idealize.ShloMosaic Idealize.ShloMosaic.TcCoe
open Cert.ReferenceIdeal Cert.ReferenceIdeal.Gen Cert.Draw

/-- A scalar word read at its only cell. -/
abbrev at0 (k : IVec S_ 32) : BitVec 32 := k (fun a => a.elim0)

theorem bc_apply (k : IVec S_ 32) (j : S1024x100000.Idx) : bc k j = at0 k := by
  unfold bc at0 broadcastInDim
  exact congrArg k (funext fun a => a.elim0)

/-- The first key word of seed 42 is 0. -/
theorem k0_eq : at0 k0V = 0#32 := by rfl

/-- The second is 42. -/
theorem k1_eq : at0 k1V = 42#32 := by rfl

section
variable {j : S1024x100000.Idx} {q : StV} {p : St}

/-- One round on the vectors is one round on the cell's words. -/
theorem step_at (l r : BitVec 32) (h : (q.1 j, q.2 j) = p) : ((stepV l r q).1 j, (stepV l r q).2 j) = stepR l r p := by
  subst h
  simp only [stepV, stepR, addi, xori, ori, Host.shli, Host.shrui, bc_apply]
  rfl

/-- The key words added on the vectors are added to the cell's words. -/
theorem inject_at (a b : IVec S_ 32) (n : BitVec 32) (h : (q.1 j, q.2 j) = p) :
    ((injectV a b n q).1 j, (injectV a b n q).2 j) = injectR (at0 a) (at0 b) n p := by
  subst h
  simp only [injectV, injectR, addi, bc_apply]
  rfl

theorem groupA_at (h : (q.1 j, q.2 j) = p) : ((groupAV q).1 j, (groupAV q).2 j) = groupAR p :=
  step_at _ _ (step_at _ _ (step_at _ _ (step_at _ _ h)))

theorem groupB_at (h : (q.1 j, q.2 j) = p) : ((groupBV q).1 j, (groupBV q).2 j) = groupBR p :=
  step_at _ _ (step_at _ _ (step_at _ _ (step_at _ _ h)))

end

/-- The generator's two words at a cell. -/
theorem pair_at (k0 k1 : IVec S_ 32) (c0 c1 : IVec S1024x100000 32) (j : S1024x100000.Idx) :
    ((pairV k0 k1 c0 c1).1 j, (pairV k0 k1 c0 c1).2 j) = pairR (at0 k0) (at0 k1) (c0 j) (c1 j) :=
  inject_at _ _ _ (groupA_at (inject_at _ _ _ (groupB_at (inject_at _ _ _ (groupA_at (inject_at _ _ _ (groupB_at
    (inject_at _ _ _ (groupA_at (by simp only [addi, bc_apply]))))))))))

/-- A cell's number on 64 bits. -/
theorem count_apply (j : S1024x100000.Idx) :
    countV j = BitVec.ofNat 64 ((j 0).val * 100000 + (j 1).val) := by
  have h : countV j = 100000#64 * BitVec.ofNat 64 (j 0).val + 1#64 * BitVec.ofNat 64 (j 1).val := rfl
  rw [h, BitVec.one_mul, ← BitVec.ofNat_mul, ← BitVec.ofNat_add, Nat.mul_comm]

theorem count_lt (j : S1024x100000.Idx) : (j 0).val * 100000 + (j 1).val < 2 ^ 32 := by
  have h0 : (j 0).val < 1024 := (j 0).isLt
  have h1 : (j 1).val < 100000 := (j 1).isLt
  omega

/-- The high word of a cell's number is 0. -/
theorem hi_apply (j : S1024x100000.Idx) : hiV j = 0#32 := by
  have h : hiV j = (IntOp.shrui .host (countV j) 32#64).setWidth 32 := rfl
  have hl := count_lt j
  rw [h, count_apply]
  generalize (j 0).val * 100000 + (j 1).val = n at hl
  simp only [IntOp.shrui]
  apply BitVec.eq_of_toNat_eq
  simp [BitVec.toNat_ofNat, Nat.shiftRight_eq_div_pow]
  omega

/-- The low word is the number. -/
theorem lo_apply (j : S1024x100000.Idx) : loV j = BitVec.ofNat 32 ((j 0).val * 100000 + (j 1).val) := by
  have h : loV j = (countV j).setWidth 32 := rfl
  rw [h, count_apply]
  apply BitVec.eq_of_toNat_eq
  simp

/-- The random word at a cell. -/
theorem word_apply (j : S1024x100000.Idx) : wordV j = word .vector (counter (j 0).val (j 1).val) := by
  have h : wordV j = out ((pairV k0V k1V hiV loV).1 j, (pairV k0V k1V hiV loV).2 j) := rfl
  rw [h, pair_at, k0_eq, k1_eq, hi_apply, lo_apply]
  refine (out_pairR .vector _).trans (congrArg _ ?_)
  rw [counter, BitVec.ofNat_add _ 42]
  rfl

/-- The uniform variate at a cell: the word's variate, scaled by `1 - 0`, moved by 0 and kept at or above 0. -/
theorem unif_apply (w : IVec S1024x100000 32) (j : S1024x100000.Idx) :
    unifOf (F := Ideal) w j = max 0 (unif (w j)) := by
  have h0 : (FloatOps.ofBits (F := Ideal) .f32 0x00000000#32 : EReal) = 0 := Ideal.ofBits_zero_f32
  have h1 : (FloatOps.ofBits (F := Ideal) .f32 0x3F800000#32 : EReal) = 1 := Ideal.ofBits_one_f32
  have hs : IntOp.shrui .host (w j) 9#32 = IntOp.shrui .vector (w j) 9#32 := by simp [IntOp.shrui]
  have h : unifOf (F := Ideal) w j = max (FloatOps.ofBits (F := Ideal) .f32 0x00000000#32 : EReal)
      (((FloatOps.ofBits (F := Ideal) .f32 (IntOp.ori (IntOp.shrui .host (w j) 9#32) 1065353216#32) : EReal)
      - (FloatOps.ofBits (F := Ideal) .f32 0x3F800000#32 : EReal))
       * ((FloatOps.ofBits (F := Ideal) .f32 0x3F800000#32 : EReal) - (FloatOps.ofBits (F := Ideal) .f32 0x00000000#32 : EReal))
       + (FloatOps.ofBits (F := Ideal) .f32 0x00000000#32 : EReal)) := rfl
  rw [h, hs, h0]
  unfold unif
  generalize (FloatOps.ofBits (F := Ideal) .f32 (IntOp.ori (IntOp.shrui .vector (w j) 9#32) 1065353216#32) : EReal) = b
  rw [h1, sub_zero, mul_one, add_zero]

/-- The logarithm of a number at or below 0 is that of 0. -/
theorem log_max_zero (x : EReal) : Ideal.log (max 0 x) = Ideal.log x := by
  have e0 : Ideal.log ((0 : ℝ) : EReal) = ⊥ := if_pos le_rfl
  rcases le_total 0 x with h | h
  · rw [max_eq_right h]
  · rw [max_eq_left h]
    refine e0.trans ?_
    induction x with
    | bot => rfl
    | top => exact absurd h (by simp)
    | coe x =>
      have hx : x ≤ 0 := by exact_mod_cast h
      exact (if_pos hx).symm

/-- The score at a cell, for any uniform variates. -/
theorem scoreOf_apply (u : FVec Ideal S1024x100000 .f32) (X : FVec Ideal S100000 .f32) (j : S1024x100000.Idx) :
    scoreOf u X j = Ideal.log (X (ix1 (j 1))) + -Ideal.log (-Ideal.log (u j)) := by
  refine congrArg (· + -Ideal.log (-Ideal.log (u j))) (congrArg Ideal.log (congrArg X ?_))
  funext a; match a with | ⟨0, _⟩ => rfl

/-- The score at a row and a column. -/
theorem score_apply (X : FVec Ideal S100000 .f32) (j : S1024x100000.Idx) :
    scoreV X j = rowScore (fun k => X (ix1 k)) (j 0).val (j 1).val := by
  rw [scoreV, scoreOf_apply, unif_apply, word_apply, log_max_zero, rowScore]
  generalize word .vector (counter (j 0).val (j 1).val) = w
  rw [dif_pos (show (j 1).val < 100000 from (j 1).isLt)]
  rfl

end Cert.ReferenceIdeal.Term
-- ==== Proof.RefFirst.lean ====
/- The reference's result: in every row the first column at which the score is greatest. -/
module

public import proofs.«01_k».proof.Proof.RefAt
public import proofs.«01_k».proof.Proof.FirstMax

@[expose] public section

set_option maxRecDepth 65536

noncomputable section

namespace Cert.ReferenceIdeal.Term

open Idealize.ShloMosaic Idealize.ShloMosaic.TcCoe
open Cert.ReferenceIdeal Cert.ReferenceIdeal.Gen Cert.Draw Cert.FirstMax

/-- A value with its column. -/
abbrev VC := Ideal .f32 × BitVec 32

/-- `p` is no better than `q`: a smaller value, or the same value at no earlier column. -/
def Le (p q : VC) : Prop := (p.1 : EReal) < q.1 ∨ ((p.1 : EReal) = q.1 ∧ q.2.toInt ≤ p.2.toInt)

theorem Le.refl (p : VC) : Le p p := Or.inr ⟨rfl, le_rfl⟩

theorem Le.trans {p q r : VC} (h : Le p q) (k : Le q r) : Le p r := by
  unfold Le at *
  rcases h with h | ⟨h, h'⟩ <;> rcases k with k | ⟨k, k'⟩
  · exact Or.inl (lt_trans h k)
  · exact Or.inl (lt_of_lt_of_eq h k)
  · exact Or.inl (lt_of_eq_of_lt h k)
  · exact Or.inr ⟨h.trans k, k'.trans h'⟩

/-- The reducer keeps one of its two pairs, and neither is better than the one it keeps. -/
theorem reducer_spec (a b : VC) :
    (reducer_argmax_f32_i32 (F := Ideal) a b = a ∨ reducer_argmax_f32_i32 (F := Ideal) a b = b)
    ∧ Le a (reducer_argmax_f32_i32 (F := Ideal) a b) ∧ Le b (reducer_argmax_f32_i32 (F := Ideal) a b) := by
  obtain ⟨a, i⟩ := a
  obtain ⟨b, k⟩ := b
  change EReal at a b
  have hr : reducer_argmax_f32_i32 (F := Ideal) (a, i) (b, k)
      = if b < a ∨ (a = b ∧ i.toInt < k.toInt) then (a, i) else (b, k) := by
    unfold reducer_argmax_f32_i32
    rcases lt_trichotomy a b with h | h | h
    · simp [Ideal.cmpf_def, Ideal.cmp, Scalar.select, IntOp.ori, IntOp.andi, h.not_gt, h.ne]
    · subst h
      by_cases hk : i.toInt < k.toInt <;>
        simp [Ideal.cmpf_def, Ideal.cmp, Scalar.select, IntOp.ori, IntOp.andi, IntOp.cmpi, BitVec.slt, hk]
    · simp [Ideal.cmpf_def, Ideal.cmp, Scalar.select, IntOp.ori, IntOp.andi, h, h.ne']
  rw [hr]
  split
  next h =>
    refine ⟨Or.inl rfl, Le.refl _, ?_⟩
    rcases h with h | ⟨h, h'⟩
    · exact Or.inl h
    · exact Or.inr ⟨h.symm, h'.le⟩
  next h =>
    refine ⟨Or.inr rfl, ?_, Le.refl _⟩
    push Not at h
    rcases lt_or_eq_of_le h.1 with h1 | h1
    · exact Or.inl h1
    · exact Or.inr ⟨h1, h.2 h1⟩

/-- Folded over a list, it keeps the start or one of the list's pairs, and none of them is better. -/
theorem fold_spec (l : List VC) (a : VC) :
    (l.foldl (reducer_argmax_f32_i32 (F := Ideal)) a ∈ a :: l)
    ∧ ∀ p ∈ a :: l, Le p (l.foldl (reducer_argmax_f32_i32 (F := Ideal)) a) := by
  induction l generalizing a with
  | nil => simpa using Le.refl a
  | cons b l ih =>
    obtain ⟨hm, hle⟩ := ih (reducer_argmax_f32_i32 (F := Ideal) a b)
    obtain ⟨hk, ha, hb⟩ := reducer_spec a b
    simp only [List.foldl_cons]
    constructor
    · rcases List.mem_cons.1 hm with hm | hm
      · rw [hm]; rcases hk with hk | hk <;> rw [hk] <;> simp
      · exact List.mem_cons_of_mem _ (List.mem_cons_of_mem _ hm)
    · intro p hp
      have h0 := hle _ List.mem_cons_self
      rcases List.mem_cons.1 hp with rfl | hp
      · exact ha.trans h0
      · rcases List.mem_cons.1 hp with rfl | hp
        · exact hb.trans h0
        · exact hle p (List.mem_cons_of_mem _ hp)

/-- The bit pattern of minus infinity. -/
theorem start_eq : (FloatOps.ofBits (F := Ideal) .f32 0xFF800000#32 : EReal) = ⊥ := by
  simp [FloatOps.ofBits, Ideal.ofBits, Ideal.ieee]

/-- A column as a word, read back. -/
theorem toInt_col (k : ℕ) (hk : k < 100000) : (BitVec.ofNat 32 k).toInt = k := by
  have h : (BitVec.ofNat 32 k).toNat = k := by rw [BitVec.toNat_ofNat]; exact Nat.mod_eq_of_lt (by omega)
  rw [BitVec.toInt_eq_toNat_of_lt (by omega), h]

/-- The pairs folded over in row `r`: the scores of the row with their columns. -/
theorem mem_fiber (x : FVec Ideal S1024x100000 .f32) (r : Fin 1024) (p : VC) :
    p ∈ Host.argReduceFiber x (iotaInDim S1024x100000 32 1) reducesTo_S1024x100000_S1024_d1 (ix1 r)
      ↔ ∃ k : Fin 100000, p = (x (ix2 r k), BitVec.ofNat 32 k.val) := by
  have hd : ∀ i : S1024x100000.Idx, reducesTo_S1024x100000_S1024_d1.drop i 0 = i 0 := fun i => rfl
  rw [Host.argReduceFiber]
  simp only [List.mem_map, List.mem_filter, List.mem_finRange, true_and, decide_eq_true_eq]
  constructor
  · rintro ⟨n, hn, rfl⟩
    refine ⟨S1024x100000.rowMajor.symm n 1, ?_⟩
    generalize S1024x100000.rowMajor.symm n = i at hn
    have h0 : i 0 = r := (hd i).symm.trans (congrFun hn 0)
    have hi : i = ix2 r (i 1) := by
      funext a
      match a with
      | ⟨0, _⟩ => exact h0
      | ⟨1, _⟩ => rfl
    exact Prod.ext (congrArg x hi) rfl
  · rintro ⟨k, rfl⟩
    refine ⟨S1024x100000.rowMajor (ix2 r k), ?_, ?_⟩
    · rw [Equiv.symm_apply_apply]
      funext a
      match a with
      | ⟨0, _⟩ => exact hd _
    · rw [Equiv.symm_apply_apply]; rfl

/-- The pair kept at a row is the fold over the row's pairs from minus infinity. -/
theorem argPair_eq (x : FVec Ideal S1024x100000 .f32) (j : S1024.Idx) :
    argPair x j = (Host.argReduceFiber x (iotaInDim S1024x100000 32 1)
      reducesTo_S1024x100000_S1024_d1 j).foldl (reducer_argmax_f32_i32 (F := Ideal)) ((⊥ : EReal), 0#32) := by
  unfold argPair
  rw [Ideal.argReduce_eq_reduce2, Host.reduce2_eq_foldl_fiber]
  have hi : ((constant (F := Ideal) S_ .f32 0xFF800000#32) (Shape.Idx.first h_S_), (constantI S_ 32 0#32) (Shape.Idx.first h_S_))
      = (((⊥ : EReal), 0#32) : VC) := Prod.ext start_eq rfl
  rw [hi]

/-- It is a pair of the row or the start, and no pair of the row is better. -/
theorem argPair_spec (x : FVec Ideal S1024x100000 .f32) (r : Fin 1024) :
    (argPair x (ix1 r) = ((⊥ : EReal), 0#32) ∨ ∃ k : Fin 100000, argPair x (ix1 r) = (x (ix2 r k), BitVec.ofNat 32 k.val))
    ∧ ∀ k : Fin 100000, Le (x (ix2 r k), BitVec.ofNat 32 k.val) (argPair x (ix1 r)) := by
  have h := fold_spec (Host.argReduceFiber x (iotaInDim S1024x100000 32 1)
      reducesTo_S1024x100000_S1024_d1 (ix1 r)) ((⊥ : EReal), 0#32)
  rw [← argPair_eq] at h
  have hm := fun p => mem_fiber x r p
  exact ⟨(List.mem_cons.1 h.1).imp id fun h => (hm _).1 h,
    fun k => h.2 _ (List.mem_cons_of_mem _ ((hm _).2 ⟨k, rfl⟩))⟩

/-- The row-wise arg-max of an array is the first column at which the row is greatest. -/
theorem argmax_first (x : FVec Ideal S1024x100000 .f32) (s : ℕ → EReal) (r : Fin 1024)
    (hs : ∀ k : Fin 100000, x (ix2 r k) = s k.val) :
    ∃ cc, First s 100000 cc ∧ argV x (ix1 r) = BitVec.ofNat 32 cc := by
  obtain ⟨hin, hc⟩ := argPair_spec x r
  have he := fun q => second_apply (P := argPair x) (j := ix1 r) (q := q)
  change ∃ cc, First s 100000 cc ∧ second (argPair x) (ix1 r) = BitVec.ofNat 32 cc
  generalize argPair x (ix1 r) = q at hin hc he
  have hq : ∃ k : Fin 100000, q = (x (ix2 r k), BitVec.ofNat 32 k.val) := by
    rcases hin with h | h
    · refine ⟨⟨0, by decide⟩, ?_⟩
      have h0 := hc ⟨0, by decide⟩
      rw [h] at h0 ⊢
      rcases h0 with h0 | ⟨h0, _⟩
      · exact absurd h0 not_lt_bot
      · exact Prod.ext h0.symm rfl
    · exact h
  obtain ⟨c, rfl⟩ := hq
  refine ⟨c.val, ⟨c.isLt, fun k hk => ?_, fun k hk => ?_⟩, he _ rfl⟩
  · rw [← hs c, ← hs ⟨k, hk⟩]
    rcases hc ⟨k, hk⟩ with h | ⟨h, _⟩
    · exact le_of_lt h
    · exact le_of_eq h
  · have hk' : k < 100000 := hk.trans c.isLt
    rw [← hs c, ← hs ⟨k, hk'⟩]
    rcases hc ⟨k, hk'⟩ with h | ⟨_, h⟩
    · exact h
    · simp only [toInt_col k hk', toInt_col c.val c.isLt] at h
      omega

/-- In every row the reference's result is the first column at which the score is greatest. -/
theorem result_first (X : FVec Ideal S100000 .f32) (r : Fin 1024) :
    ∃ cc, First (rowScore (fun k => X (ix1 k)) r.val) 100000 cc ∧ resultV X (ix1 r) = BitVec.ofNat 32 cc := by
  unfold resultV
  refine argmax_first (scoreV X) (rowScore (fun k => X (ix1 k)) r.val) r fun k => ?_
  have h0 : ((ix2 r k : S1024x100000.Idx) 0).val = r.val := rfl
  have h1 : ((ix2 r k : S1024x100000.Idx) 1).val = k.val := rfl
  rw [score_apply, h0, h1]

end Cert.ReferenceIdeal.Term
-- ==== Proof.Equation.lean ====
/- The equation: on the same frequencies the kernel and the reference have the same result. -/
module

public import proofs.«01_k».proof.Proof.KernelRun
public import proofs.«01_k».proof.Proof.RefFirst

@[expose] public section

set_option maxRecDepth 65536

noncomputable section

namespace Cert.Proof

open Idealize.ShloMosaic Idealize.ShloMosaic.TcCoe Idealize.SL.Sem Cert.FirstMax Cert.Draw

/-- An array of words of which every element is the first maximum of its row's scores is the only such array. -/
theorem first_ext (s : ℕ → ℕ → EReal) (a b : IVec ⟨1, ![1024]⟩ 32)
    (ha : ∀ r : Fin 1024, ∃ cc, First (s r.val) 100000 cc ∧ a (ix1 r) = BitVec.ofNat 32 cc)
    (hb : ∀ r : Fin 1024, ∃ cc, First (s r.val) 100000 cc ∧ b (ix1 r) = BitVec.ofNat 32 cc) : a = b := by
  funext j
  obtain ⟨r, rfl⟩ : ∃ r : Fin 1024, j = ix1 r := ⟨j 0, by funext d; match d with | ⟨0, _⟩ => rfl⟩
  obtain ⟨ca, hca, ea⟩ := ha r
  obtain ⟨cb, hcb, eb⟩ := hb r
  exact ea.trans ((congrArg _ (hca.unique hcb)).trans eb.symm)

variable (m : (ℓ : Loc Cert.KernelIdeal.nD Cert.KernelIdeal.τ Cert.KernelIdeal.sig) → Buf (Elt Ideal) ℓ)

/-- The kernel's result is the reference's, on the kernel's argument. -/
theorem result_eq (c : Dev Cert.KernelIdeal.nD) :
    Cert.KernelIdeal.Value.result m c
      = Cert.ReferenceIdeal.Term.resultV (F := Ideal)
          (m ((c.tc : Thread Cert.KernelIdeal.nD Cert.KernelIdeal.τ).loc Cert.KernelIdeal.main_arg0)) :=
  first_ext (fun r => rowScore (Cert.KernelIdeal.Value.freq m c) r) _ _
    (fun r => Cert.KernelIdeal.Value.result_first m c r)
    (fun r => Cert.ReferenceIdeal.Term.result_first _ r)

end Cert.Proof
-- ==== Proof.ClampRun.lean ====
/- The reference that clamps the uniform variates: its result as one term over its argument, and its run. -/
module

public import proofs.«01_k».proof.Proof.RefTerm
public import proofs.«01_k».proof.Proof.Gen.ReferenceClampedIdeal

@[expose] public section

set_option maxRecDepth 65536

noncomputable section

namespace Cert.ReferenceClampedIdeal.Term

open Idealize.ShloMosaic Idealize.ShloMosaic.TcCoe Idealize.SL.Sem
open Cert.ReferenceClampedIdeal Cert.ReferenceClampedIdeal.Gen Cert.ReferenceIdeal.Term

variable {F : FTy → Type} [FloatOps F]

/-- An array kept at or above the smallest normal float. -/
def clampOf (u : FVec F S1024x100000 .f32) : FVec F S1024x100000 .f32 :=
  maximumf (broadcastInDim S1024x100000 ![] bcast_S_S1024x100000 (constant S_ .f32 0x00800000#32)) u

/-- The uniform variates, kept at or above the smallest normal float. -/
def clampV : FVec F S1024x100000 .f32 := clampOf (unifOf wordV)

/-- The result: the row-wise arg-max of the scores made of the clamped variates. -/
def resultV (X : FVec F S100000 .f32) : IVec S1024 32 := argV (scoreOf clampV X)

/-- The reference's operations. -/
def ops : { ops : List (HloOp τ sig (Elt F)) //
    ∀ d : Dev nD, StableHlo.IsSeq (main (F := F) d) ops } :=
  by constructor; hlo_seq

/-- What they leave in the result array. -/
theorem after_eq (W : Valuation τ sig (Elt F)) :
    StableHlo.after (ops (F := F)).1 W (Proc.devRef .tc main_v18) = resultV (W (Proc.devRef .tc main_arg0)) := by
  sl_kernel_rfl

/-- They leave the argument as it was. -/
theorem after_arg (W : Valuation τ sig (Elt F)) :
    StableHlo.after (ops (F := F)).1 W (Proc.devRef .tc main_arg0) = W (Proc.devRef .tc main_arg0) := by
  sl_kernel_rfl

/-- The reference runs to its result term over the argument, and leaves the argument as it was. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v18) = resultV (m ((c.tc : Thread nD τ).loc main_arg0))
      ∧ r.2.mem ((c.tc : Thread nD τ).loc main_arg0) = m ((c.tc : Thread nD τ).loc main_arg0)) := by
  refine (θ_run defs _ _).mono (fun r hr c => ⟨(hr c main_v18).trans (after_eq _), (hr c main_arg0).trans (after_arg _)⟩)
    (StableHlo.run_hlo defs (main (F := F)) (ops (F := F)).2 (by decide) (by decide) ?_ ?_ m ρ)
  · simp [ops]
  · intro _ h
    (repeat (cases h with | head => rfl | tail _ h => ?_))
    exact nomatch h

end Cert.ReferenceClampedIdeal.Term
-- ==== Proof.Unif.lean ====
/- The uniform variate as a real number: the upper 23 bits of the random word over 2^23. -/
module

public import proofs.«01_k».proof.Proof.Draw
public import Mathlib.Analysis.SpecialFunctions.Log.Basic

@[expose] public section

noncomputable section

namespace Cert.Draw

open Idealize.ShloMosaic

/-- The 23 bits of a random word that make the variate. -/
def top (w : BitVec 32) : ℕ := w.toNat / 2 ^ 9

theorem top_lt (w : BitVec 32) : top w < 2 ^ 23 := by
  have := w.isLt
  unfold top; omega

/-- The float with the exponent of 1 and the mantissa `t`. -/
theorem ofBits_mantissa (b : BitVec 32) (t : ℕ) (ht : t < 2 ^ 23) (hb : b.toNat = 127 * 2 ^ 23 + t) :
    Ideal.ofBits .f32 b = (((2 ^ 23 + t : ℕ) * (2 : ℝ) ^ (-23 : ℤ) : ℝ) : EReal) := by
  have hn : b.extractLsb' 31 1 = 0#1 := by
    apply BitVec.eq_of_toNat_eq
    rw [BitVec.extractLsb'_toNat, hb, Nat.shiftRight_eq_div_pow]
    show (127 * 2 ^ 23 + t) / 2 ^ 31 % 2 ^ 1 = 0
    omega
  have he : (b.extractLsb' 23 8).toNat = 127 := by
    rw [BitVec.extractLsb'_toNat, hb, Nat.shiftRight_eq_div_pow]
    omega
  have hf : (b.extractLsb' 0 23).toNat = t := by
    rw [BitVec.extractLsb'_toNat, hb, Nat.shiftRight_eq_div_pow]
    omega
  show Ideal.ieee 8 23 b = _
  unfold Ideal.ieee
  simp only [hn, he, hf]
  norm_num

/-- The variate of a word. -/
theorem unif_eq (w : BitVec 32) : unif w = (((top w : ℝ) / 2 ^ 23 : ℝ) : EReal) := by
  have h1 : (FloatOps.ofBits (F := Ideal) .f32 0x3F800000#32 : EReal) = ((1 : ℝ) : EReal) := by
    refine (ofBits_mantissa 0x3F800000#32 0 (by norm_num) (by rfl)).trans ?_
    norm_num
  have hs : (IntOp.shrui .vector w 9#32).toNat = top w := by
    simp [IntOp.shrui, top, Nat.shiftRight_eq_div_pow]
  have hb : (IntOp.ori (IntOp.shrui .vector w 9#32) 1065353216#32).toNat = 127 * 2 ^ 23 + top w := by
    show (IntOp.shrui .vector w 9#32 ||| 1065353216#32).toNat = _
    rw [BitVec.toNat_or, hs, Nat.or_comm]
    exact (Nat.two_pow_add_eq_or_of_lt (top_lt w) 127).symm.trans (by ring)
  have h2 : (FloatOps.ofBits (F := Ideal) .f32 (IntOp.ori (IntOp.shrui .vector w 9#32) 1065353216#32) : EReal)
      = (((2 ^ 23 + top w : ℕ) * (2 : ℝ) ^ (-23 : ℤ) : ℝ) : EReal) := ofBits_mantissa _ _ (top_lt w) hb
  rw [unif, h1, h2, ← EReal.coe_sub]
  congr 1
  push_cast
  norm_num
  ring

end Cert.Draw
-- ==== Proof.Columns.lean ====
/- In every row a column whose uniform variate is close to one. -/
module

public import proofs.«01_k».proof.Proof.Unif

@[expose] public section

set_option maxRecDepth 65536

namespace Cert.Draw

open Idealize.ShloMosaic

/-- A column of every row, in the order of the rows. -/
def columns : List ℕ :=
  [59469, 38259, 69600, 27910, 69343, 6784, 25705, 24483, 26639, 33386, 30457, 40870, 78185, 45648, 28283, 5509,
   17906, 11619, 46124, 6518, 7335, 49288, 24234, 69025, 31631, 23149, 85454, 32180, 68907, 58682, 65526, 91754,
   79288, 51131, 8050, 64816, 65389, 90946, 20679, 64615, 50910, 30874, 37075, 27, 25815, 63129, 25100, 93358,
   26348, 31721, 34048, 22813, 77898, 97789, 90270, 74955, 97173, 19447, 52927, 18770, 95835, 16057, 48912, 25982,
   5068, 77742, 16691, 82033, 26556, 16054, 7568, 56901, 99157, 28618, 32971, 55225, 58317, 52049, 46546, 70824,
   45051, 95695, 75558, 80364, 29025, 64466, 94109, 82159, 44331, 27681, 47513, 66343, 2640, 18756, 21074, 78508,
   82291, 66410, 29667, 84988, 32737, 19006, 96376, 50420, 61652, 84016, 19146, 10005, 59793, 95951, 32140, 812,
   81701, 61938, 22536, 9635, 65692, 79145, 48237, 97382, 47228, 61503, 36793, 72655, 1571, 21752, 21414, 51843,
   98187, 37679, 14039, 18621, 33701, 33268, 54065, 80269, 45528, 92880, 78403, 97465, 43701, 13372, 42822, 28321,
   69424, 92766, 12437, 15885, 9092, 77644, 99737, 33860, 14441, 98142, 64711, 88414, 8779, 76543, 55520, 28661,
   98624, 84942, 51714, 29434, 29494, 4125, 19963, 20504, 8500, 11437, 73021, 22860, 8443, 94345, 61086, 13825,
   74245, 33159, 4110, 54610, 47809, 516, 17275, 2286, 42064, 39431, 65539, 80749, 799, 77786, 45560, 61605,
   45188, 72200, 61285, 27521, 47683, 7563, 32793, 95686, 79583, 37210, 68441, 69022, 27531, 4880, 17658, 61231,
   45118, 50154, 20757, 93463, 67896, 17135, 67101, 4935, 67890, 26135, 89607, 99767, 11220, 82244, 40734, 98674,
   43155, 85942, 23960, 77114, 13535, 10858, 38626, 41189, 69141, 19176, 97614, 21377, 52155, 42091, 3701, 56143,
   22379, 67825, 72434, 57365, 29963, 24511, 19810, 47554, 46627, 65315, 63049, 80006, 4690, 53056, 88870, 8776,
   80355, 93728, 46211, 32333, 37817, 90223, 7423, 84925, 8472, 83063, 4309, 65368, 79230, 68230, 35230, 21666,
   93546, 1035, 65043, 50476, 57792, 94657, 30153, 2053, 30522, 35076, 48539, 4344, 59361, 50887, 74124, 77369,
   30860, 14401, 21396, 58284, 92061, 11664, 89785, 84393, 19975, 10245, 22525, 7149, 31145, 59411, 71904, 81842,
   98118, 45780, 83888, 70485, 13207, 38210, 52062, 69621, 24439, 96154, 77165, 92239, 71295, 86694, 42297, 10893,
   55040, 36061, 99975, 29492, 94616, 24437, 38225, 15109, 46287, 54005, 77209, 70159, 99960, 92371, 27383, 34603,
   98039, 37349, 27365, 59015, 84351, 14739, 89971, 92200, 58090, 86901, 85494, 11459, 86103, 93989, 56706, 33863,
   15956, 38597, 20412, 49241, 49843, 56073, 43991, 72017, 56546, 55039, 92403, 98228, 91993, 18787, 87022, 30208,
   73455, 69150, 28338, 92626, 57429, 85551, 68735, 54755, 1156, 41820, 56363, 59993, 95762, 30928, 902, 80202,
   29263, 96394, 81658, 44109, 892, 72913, 95640, 52358, 94644, 99025, 95961, 3168, 44535, 18945, 49098, 79748,
   2229, 79489, 13514, 18719, 97026, 98967, 36226, 6220, 39764, 10418, 93382, 75594, 50998, 96295, 99784, 9119,
   70207, 75808, 33514, 85063, 81819, 18799, 22124, 15848, 77016, 79183, 41589, 41704, 47212, 49699, 67321, 81160,
   28869, 22434, 7172, 37288, 94382, 61105, 12705, 28556, 70445, 94142, 91996, 1306, 71380, 5122, 78536, 25716,
   52920, 80545, 32660, 58680, 10476, 66399, 87226, 8937, 6005, 20895, 22045, 81382, 90907, 54897, 67273, 28525,
   8208, 62531, 96895, 57946, 69140, 54658, 51152, 81717, 64015, 6746, 22497, 24194, 41021, 70508, 76205, 66600,
   91618, 87429, 3474, 40729, 149, 28157, 17403, 76179, 65512, 50768, 67353, 64034, 97048, 2941, 25593, 1495,
   66706, 25238, 48206, 35050, 26025, 92127, 46471, 52405, 1608, 64505, 33609, 70115, 86209, 2747, 20392, 76832,
   28845, 83377, 79905, 64420, 58808, 41305, 762, 25010, 9514, 82057, 94448, 83229, 71626, 9499, 37002, 76082,
   47191, 85344, 9547, 60390, 55075, 88878, 5149, 39304, 64692, 8587, 1146, 23185, 58589, 42103, 25678, 20477,
   7842, 2073, 61896, 53643, 3697, 6606, 32845, 74654, 92856, 65846, 42150, 96765, 56096, 10592, 54347, 88139,
   62069, 51574, 2276, 64847, 6875, 59505, 21870, 51010, 78088, 73087, 36184, 78820, 4376, 85203, 97721, 2296,
   54434, 87312, 75632, 16317, 19261, 29676, 12416, 17508, 71286, 83738, 11698, 34380, 31400, 49506, 86839, 82170,
   34041, 71869, 49095, 89633, 29613, 30197, 33409, 69582, 52161, 61425, 28606, 51141, 51313, 37339, 91420, 56116,
   96036, 74955, 89311, 1689, 1181, 99565, 72254, 97364, 30821, 73379, 25868, 87046, 76657, 86376, 56077, 51046,
   9014, 88036, 24011, 77131, 8243, 77422, 56768, 67518, 58188, 47267, 95613, 72721, 86443, 13849, 98459, 7264,
   67813, 48173, 39686, 97383, 21967, 68843, 93015, 67713, 37286, 77483, 39684, 55562, 91869, 88006, 83118, 14141,
   5682, 8154, 4758, 70535, 1094, 56725, 74670, 60514, 19060, 26711, 73291, 13715, 62376, 50085, 51942, 99843,
   91963, 24838, 27468, 53843, 4499, 1622, 88264, 16734, 49844, 10425, 14652, 77131, 40429, 46067, 43665, 31867,
   15400, 38550, 16248, 24195, 40417, 65706, 5908, 8468, 29126, 10680, 90647, 6513, 13597, 83447, 81086, 75288,
   39039, 90600, 46192, 95237, 9143, 53339, 63820, 62610, 797, 6823, 36201, 61907, 25619, 70654, 79018, 48515,
   69487, 29137, 97879, 30141, 13128, 7817, 66286, 3912, 26972, 7338, 32603, 91985, 35743, 23669, 48574, 75593,
   62408, 65690, 1441, 66827, 48784, 73884, 75725, 50857, 14847, 46593, 33455, 44083, 78780, 73735, 66497, 6583,
   69983, 61738, 17356, 15896, 17595, 66275, 50135, 33113, 37995, 27842, 22681, 62745, 5039, 73017, 30656, 81360,
   73661, 33910, 87265, 53956, 75647, 88324, 37735, 66989, 34124, 84473, 5491, 63181, 97992, 13649, 78379, 49652,
   54203, 7916, 18665, 62439, 35296, 95498, 72480, 88070, 89050, 50165, 92151, 9455, 25589, 41061, 43452, 24772,
   75046, 29415, 60621, 16740, 81808, 96224, 86671, 89995, 86329, 24817, 25198, 45677, 44903, 76078, 3685, 42474,
   36618, 9889, 56907, 29070, 82794, 34348, 73496, 20978, 55976, 88821, 29761, 39056, 74952, 86751, 88651, 40038,
   19356, 51099, 38599, 78551, 58317, 97254, 52659, 80666, 56949, 52887, 56683, 6530, 80917, 74674, 21608, 61154,
   80847, 83363, 18148, 84667, 86557, 1548, 54569, 6130, 62435, 43405, 59646, 23650, 24679, 93472, 71235, 32840,
   47653, 90450, 82268, 72080, 82081, 58540, 32377, 53191, 94114, 81175, 92998, 54105, 50895, 7173, 61892, 24987,
   94692, 13823, 3318, 77252, 30061, 67022, 25605, 31602, 47724, 92971, 96121, 88234, 63104, 48654, 77409, 35374,
   4636, 45534, 73549, 6560, 82115, 39269, 43092, 14397, 92962, 77808, 68328, 4892, 31040, 90845, 85744, 82795,
   32247, 51351, 12064, 9836, 5985, 98344, 67634, 93605, 80951, 47036, 37742, 17350, 13947, 62207, 70333, 33752,
   84818, 1801, 90257, 68007, 40527, 58019, 2794, 85769, 85112, 46103, 69608, 97424, 82469, 12216, 96367, 85532,
   1823, 68744, 47858, 35146, 51036, 93077, 59390, 98691, 29939, 13127, 15903, 32542, 26737, 46559, 51596, 44497,
   22045, 88409, 98005, 497, 37315, 91277, 84240, 81380, 89743, 19303, 7061, 29739, 69893, 78285, 50588, 35056,
   3148, 39113, 87270, 45794, 70080, 67262, 13705, 71414, 8747, 64902, 49011, 73554, 67508, 35520, 29887, 74016,
   95527, 49304, 11144, 30472, 60343, 35122, 73839, 43044, 67770, 33537, 88265, 97148, 68081, 17787, 99921, 66637,
   81621, 91835, 67693, 85964, 27664, 12132, 63284, 16965, 35552, 65957, 99207, 77592, 15243, 60909, 74946, 28941]

/-- From row `r` on, each of the columns lies in the array and its variate misses one by at most `663 / 2^23`. -/
def near : ℕ → List ℕ → Bool
  | _, [] => true
  | r, c :: l => (decide (c < 100000) && decide (2 ^ 23 - 663 ≤ top (word .vector (counter r c)))) && near (r + 1) l

theorem near_columns : near 0 columns = true := by decide +kernel

theorem length_columns : columns.length = 1024 := by decide +kernel

theorem near_spec (l : List ℕ) (r : ℕ) (h : near r l = true) (i : ℕ) (hi : i < l.length) :
    l[i] < 100000 ∧ 2 ^ 23 - 663 ≤ top (word .vector (counter (r + i) l[i])) := by
  induction l generalizing r i with
  | nil => exact absurd hi (Nat.not_lt_zero i)
  | cons c l ih =>
    simp only [near, Bool.and_eq_true, decide_eq_true_eq] at h
    cases i with
    | zero => exact h.1
    | succ i =>
      have := ih (r + 1) h.2 i (Nat.lt_of_succ_lt_succ hi)
      rw [show r + 1 + i = r + (i + 1) by omega] at this
      exact this

/-- In every row there is a column whose variate misses one by at most `663 / 2^23`. -/
theorem exists_near (r : Fin 1024) :
    ∃ k : Fin 100000, 2 ^ 23 - 663 ≤ top (word .vector (counter r.val k.val)) := by
  have h := near_spec columns 0 near_columns r.val (by rw [length_columns]; exact r.isLt)
  rw [Nat.zero_add] at h
  exact ⟨⟨_, h.1⟩, h.2⟩

end Cert.Draw
-- ==== Proof.ClampScore.lean ====
/- The scores made of clamped uniform variates: where they differ from those made of the variates themselves, neither is
   the greatest of its row. -/
module

public import proofs.«01_k».proof.Proof.Columns
public import proofs.«01_k».proof.Proof.FirstMax
public import Mathlib.Analysis.SpecialFunctions.Log.Basic

@[expose] public section

noncomputable section

namespace Cert.FirstMax

/-- A first maximum stays one when the sequence changes only at terms that were minus infinity and that stay below some
    other term. -/
theorem First.raise {s s' : ℕ → EReal} {n i q : ℕ} (h : First s n i) (hq : q < n) (hq0 : s q ≠ ⊥)
    (hs : ∀ k < n, s' k = s k ∨ (s k = ⊥ ∧ s' k < s q)) : First s' n i := by
  have hi : s' i = s i := by
    rcases hs i h.1 with e | ⟨e, _⟩
    · exact e
    · exact absurd (le_bot_iff.1 ((h.2.1 q hq).trans e.le)) hq0
  refine ⟨h.1, fun k hk => ?_, fun k hk => ?_⟩
  · rw [hi]
    rcases hs k hk with e | ⟨_, e⟩
    · exact e.le.trans (h.2.1 k hk)
    · exact e.le.trans (h.2.1 q hq)
  · rw [hi]
    rcases hs k (hk.trans h.1) with e | ⟨_, e⟩
    · exact e.trans_lt (h.2.2 k hk)
    · exact e.trans_le (h.2.1 q hq)

end Cert.FirstMax

namespace Cert.Draw

open Idealize.ShloMosaic Cert.FirstMax

/-- The smallest normal float. -/
def tiny : EReal := (FloatOps.ofBits (F := Ideal) .f32 0x00800000#32 : EReal)

theorem tiny_eq : tiny = (((2 : ℝ) ^ (-126 : ℤ) : ℝ) : EReal) := by
  show Ideal.ieee 8 23 (0x00800000#32 : BitVec 32) = _
  unfold Ideal.ieee
  simp
  norm_cast
  norm_num

/-- The noise made of the clamped variate of the word `w`. -/
def noiseC (w : BitVec 32) : EReal := -(Ideal.log (-(Ideal.log (max tiny (max 0 (unif w))))))

/-- The score made of it, for the frequencies `X`. -/
def rowScoreC (X : Fin 100000 → EReal) (row col : ℕ) : EReal :=
  if h : col < 100000 then Ideal.log (X ⟨col, h⟩) + noiseC (word .vector (counter row col)) else ⊥

theorem log_pos_eq (x : ℝ) (h : 0 < x) : Ideal.log (x : EReal) = (Real.log x : EReal) := by
  rw [Ideal.log_coe, if_neg (not_le.2 h)]

/-- The clamp changes only a variate that is zero. -/
theorem noiseC_eq (w : BitVec 32) (h : top w ≠ 0) : noiseC w = noise w := by
  have h1 : (1 : ℝ) ≤ top w := by exact_mod_cast Nat.one_le_iff_ne_zero.2 h
  have hm : max tiny (max 0 (unif w)) = unif w := by
    rw [unif_eq, tiny_eq]
    have h0 : (0 : ℝ) ≤ (top w : ℝ) / 2 ^ 23 := by positivity
    have h2 : (2 : ℝ) ^ (-126 : ℤ) ≤ (top w : ℝ) / 2 ^ 23 := by
      rw [le_div_iff₀ (by positivity)]
      refine le_trans ?_ h1
      norm_num
    have e : max (0 : EReal) (((top w : ℝ) / 2 ^ 23 : ℝ) : EReal) = (((top w : ℝ) / 2 ^ 23 : ℝ) : EReal) :=
      max_eq_right (EReal.coe_nonneg.2 h0)
    rw [e, max_eq_right (EReal.coe_le_coe_iff.2 h2)]
  rw [noiseC, noise, hm]

/-- The noise of a variate that is zero. -/
theorem noise_zero (w : BitVec 32) (h : top w = 0) : noise w = ⊥ := by
  have e0 : Ideal.log ((0 : ℝ) : EReal) = ⊥ := if_pos le_rfl
  have hu : unif w = ((0 : ℝ) : EReal) := by rw [unif_eq, h]; norm_num
  rw [noise, hu, e0]
  rfl

/-- The noise of such a variate after the clamp. -/
theorem noiseC_zero (w : BitVec 32) (h : top w = 0) : noiseC w = ((-Real.log (126 * Real.log 2) : ℝ) : EReal) := by
  have hu : unif w = ((0 : ℝ) : EReal) := by rw [unif_eq, h]; norm_num
  have hp : (0 : ℝ) < (2 : ℝ) ^ (-126 : ℤ) := by positivity
  have hl : Real.log ((2 : ℝ) ^ (-126 : ℤ)) = -(126 * Real.log 2) := by
    rw [Real.log_zpow]; push_cast; ring
  have h2 : 0 < 126 * Real.log 2 := by have := Real.log_pos (x := 2) (by norm_num); positivity
  have hm : max tiny (max 0 (unif w)) = (((2 : ℝ) ^ (-126 : ℤ) : ℝ) : EReal) := by
    rw [hu, tiny_eq, EReal.coe_zero, max_self, max_eq_left (by exact_mod_cast hp.le)]
  rw [noiseC, hm, log_pos_eq _ hp, hl, EReal.coe_neg, neg_neg, log_pos_eq _ h2, EReal.coe_neg]

/-- The noise of a variate close to one. -/
theorem noise_near (w : BitVec 32) (h : 2 ^ 23 - 663 ≤ top w) :
    ∃ y : ℝ, 0 < y ∧ y ≤ 663 / (2 ^ 23 - 663) ∧ noise w = ((-Real.log y : ℝ) : EReal) := by
  have hlt : (top w : ℝ) < 2 ^ 23 := by exact_mod_cast top_lt w
  have hge : (2 ^ 23 - 663 : ℝ) ≤ top w := by
    have : ((2 ^ 23 - 663 : ℕ) : ℝ) ≤ top w := by exact_mod_cast h
    norm_num at this ⊢
    exact this
  have hp : (0 : ℝ) < (top w : ℝ) / 2 ^ 23 := by
    apply div_pos _ (by positivity)
    refine lt_of_lt_of_le ?_ hge
    norm_num
  have h1 : (top w : ℝ) / 2 ^ 23 < 1 := by rw [div_lt_one (by positivity)]; exact hlt
  have hy : 0 < -Real.log ((top w : ℝ) / 2 ^ 23) := neg_pos.2 (Real.log_neg hp h1)
  refine ⟨-Real.log ((top w : ℝ) / 2 ^ 23), hy, ?_, ?_⟩
  · have h2 := Real.one_sub_inv_le_log_of_pos hp
    have h3 : ((top w : ℝ) / 2 ^ 23)⁻¹ ≤ ((2 ^ 23 - 663 : ℝ) / 2 ^ 23)⁻¹ := by
      apply inv_anti₀ (by norm_num)
      gcongr
    have h4 : ((2 ^ 23 - 663 : ℝ) / 2 ^ 23)⁻¹ = 1 + 663 / (2 ^ 23 - 663) := by norm_num
    linarith
  · rw [noise, unif_eq, log_pos_eq _ hp, ← EReal.coe_neg, log_pos_eq _ hy, EReal.coe_neg]

/-- A lower bound of the logarithm of 2, from `2 = 5/4 · 6/5 · 7/6 · 8/7`. -/
theorem log_two_gt : (0.6345 : ℝ) < Real.log 2 := by
  have e : Real.log 2 = Real.log (5 / 4) + Real.log (6 / 5) + Real.log (7 / 6) + Real.log (8 / 7) := by
    rw [← Real.log_mul (by norm_num) (by norm_num), ← Real.log_mul (by norm_num) (by norm_num),
      ← Real.log_mul (by norm_num) (by norm_num)]
    norm_num
  have h1 := Real.one_sub_inv_le_log_of_pos (x := (5 / 4 : ℝ)) (by norm_num)
  have h2 := Real.one_sub_inv_le_log_of_pos (x := (6 / 5 : ℝ)) (by norm_num)
  have h3 := Real.one_sub_inv_le_log_of_pos (x := (7 / 6 : ℝ)) (by norm_num)
  have h4 := Real.one_sub_inv_le_log_of_pos (x := (8 / 7 : ℝ)) (by norm_num)
  rw [e]
  norm_num at h1 h2 h3 h4 ⊢
  linarith

/-- The float nearest to one millionth. -/
def millionth : ℝ := 8796093 / 2 ^ 43

/-- The clamped noise of a zero variate, at the greatest frequency, is below the noise of a variate close to one at the
    smallest frequency. -/
theorem below (x z y : ℝ) (hx : millionth ≤ x) (hz0 : 0 < z) (hz : z ≤ 1) (hy0 : 0 < y) (hy : y ≤ 663 / (2 ^ 23 - 663)) :
    Real.log z + -Real.log (126 * Real.log 2) < Real.log x + -Real.log y := by
  have h2 := log_two_gt
  have hm : 0 < millionth := by unfold millionth; positivity
  have h1 : Real.log z ≤ 0 := Real.log_nonpos hz0.le hz
  have h3 : Real.log millionth ≤ Real.log x := Real.log_le_log hm hx
  have h4 : Real.log y < Real.log (millionth * (126 * Real.log 2)) := by
    apply Real.log_lt_log hy0
    refine lt_of_le_of_lt hy ?_
    have : millionth * (126 * 0.6345) < millionth * (126 * Real.log 2) := by
      apply mul_lt_mul_of_pos_left _ hm
      linarith
    refine lt_trans ?_ this
    unfold millionth
    norm_num
  rw [Real.log_mul hm.ne' (by positivity)] at h4
  linarith

/-- In every row the clamp leaves the first maximum of the scores where it is, for frequencies between one millionth and
    one. -/
theorem first_clamp (X : Fin 100000 → EReal) (hX : ∀ k, ∃ x : ℝ, millionth ≤ x ∧ x ≤ 1 ∧ X k = (x : EReal))
    (r : Fin 1024) (i : ℕ) (h : First (rowScore X r.val) 100000 i) : First (rowScoreC X r.val) 100000 i := by
  have hm : 0 < millionth := by unfold millionth; positivity
  obtain ⟨q, hq⟩ := exists_near r
  obtain ⟨y, hy0, hy, hyn⟩ := noise_near _ hq
  obtain ⟨x, hx, _, hxX⟩ := hX q
  have hsq : rowScore X r.val q.val = ((Real.log x + -Real.log y : ℝ) : EReal) := by
    rw [rowScore, dif_pos q.isLt, score, hyn, hxX, log_pos_eq _ (hm.trans_le hx), EReal.coe_add]
  refine h.raise q.isLt (by rw [hsq]; exact EReal.coe_ne_bot _) fun k hk => ?_
  obtain ⟨z, hz, hz1, hzX⟩ := hX ⟨k, hk⟩
  have hz0 := hm.trans_le hz
  rw [hsq, rowScore, rowScoreC, dif_pos hk, dif_pos hk, score, hzX, log_pos_eq _ hz0]
  generalize word .vector (counter r.val k) = w
  by_cases hw : top w = 0
  · refine Or.inr ⟨by rw [noise_zero w hw]; rfl, ?_⟩
    rw [noiseC_zero w hw, ← EReal.coe_add, EReal.coe_lt_coe_iff]
    exact below x z y hx hz0 hz1 hy0 hy
  · exact Or.inl (by rw [noiseC_eq w hw])

end Cert.Draw
-- ==== Proof.ClampFirst.lean ====
/- The reference that clamps the uniform variates: in every row its result is the kernel's. -/
module

public import proofs.«01_k».proof.Proof.ClampRun
public import proofs.«01_k».proof.Proof.ClampScore
public import proofs.«01_k».proof.Proof.Equation
public import Idealize.ShloMosaic.Lib.ReduceAll
public import Idealize.ShloMosaic.Lib.Affine
public import proofs.«01_k».proof.Proof.Gen.Pre_drawn_from_setup

@[expose] public section

set_option maxRecDepth 65536

noncomputable section

namespace Cert.Proof

open Idealize.ShloMosaic Idealize.ShloMosaic.TcCoe Cert.FirstMax Cert.Draw

/-- The clamp at a cell. -/
theorem clampOf_apply (u : FVec Ideal Cert.ReferenceIdeal.S1024x100000 .f32) (j : Cert.ReferenceIdeal.S1024x100000.Idx) :
    Cert.ReferenceClampedIdeal.Term.clampOf (F := Ideal) u j = max tiny (u j) := rfl

/-- The clamped variate at a cell. -/
theorem clamp_apply (j : Cert.ReferenceIdeal.S1024x100000.Idx) :
    Cert.ReferenceClampedIdeal.Term.clampV (F := Ideal) j
      = max tiny (max 0 (unif (word .vector (counter (j 0).val (j 1).val)))) := by
  rw [Cert.ReferenceClampedIdeal.Term.clampV, clampOf_apply, Cert.ReferenceIdeal.Term.unif_apply,
    Cert.ReferenceIdeal.Term.word_apply]

/-- The score at a row and a column. -/
theorem scoreC_apply (X : FVec Ideal Cert.ReferenceIdeal.S100000 .f32) (j : Cert.ReferenceIdeal.S1024x100000.Idx) :
    Cert.ReferenceIdeal.Term.scoreOf (Cert.ReferenceClampedIdeal.Term.clampV (F := Ideal)) X j
      = rowScoreC (fun k => X (ix1 k)) (j 0).val (j 1).val := by
  rw [Cert.ReferenceIdeal.Term.scoreOf_apply, clamp_apply, rowScoreC]
  generalize word .vector (counter (j 0).val (j 1).val) = w
  rw [dif_pos (show (j 1).val < 100000 from (j 1).isLt)]
  rfl

/-- In every row the result is the first column at which the clamped score is greatest. -/
theorem resultC_first (X : FVec Ideal Cert.ReferenceIdeal.S100000 .f32) (r : Fin 1024) :
    ∃ cc, First (rowScoreC (fun k => X (ix1 k)) r.val) 100000 cc
      ∧ Cert.ReferenceClampedIdeal.Term.resultV (F := Ideal) X (ix1 r) = BitVec.ofNat 32 cc := by
  unfold Cert.ReferenceClampedIdeal.Term.resultV
  refine Cert.ReferenceIdeal.Term.argmax_first _ (rowScoreC (fun k => X (ix1 k)) r.val) r fun k => ?_
  have h0 : ((ix2 r k : Cert.ReferenceIdeal.S1024x100000.Idx) 0).val = r.val := rfl
  have h1 : ((ix2 r k : Cert.ReferenceIdeal.S1024x100000.Idx) 1).val = k.val := rfl
  rw [scoreC_apply, h0, h1]

/-- The floats between which the precondition keeps the frequencies. -/
theorem lower_eq : (FloatOps.ofBits (F := Ideal) .f32 0x358637BD#32 : EReal) = (millionth : EReal) := by
  show Ideal.ieee 8 23 (0x358637BD#32 : BitVec 32) = _
  unfold Ideal.ieee millionth
  simp
  norm_cast

theorem upper_eq : (FloatOps.ofBits (F := Ideal) .f32 0x3F800000#32 : EReal) = ((1 : ℝ) : EReal) := Ideal.ofBits_one_f32

/-- A number between two reals is real. -/
theorem real_between (x : EReal) (a b : ℝ) (ha : (a : EReal) ≤ x) (hb : x ≤ (b : EReal)) :
    ∃ y : ℝ, a ≤ y ∧ y ≤ b ∧ x = (y : EReal) := by
  induction x with
  | bot => exact absurd ha (not_le.2 (EReal.bot_lt_coe a))
  | top => exact absurd hb (not_le.2 (EReal.coe_lt_top b))
  | coe y => exact ⟨y, EReal.coe_le_coe_iff.1 ha, EReal.coe_le_coe_iff.1 hb, rfl⟩

/-- Under the precondition every frequency is a real number between one millionth and one. -/
theorem pre_spec (X : FVec Ideal Cert.Pre_drawn_from_setup.S100000 .f32)
    (h : Cert.Pre_drawn_from_setup.fn (F := Ideal) X = fun _ => 1#1) (k : Fin 100000) :
    ∃ x : ℝ, millionth ≤ x ∧ x ≤ 1 ∧ (X (ix1 k) : EReal) = (x : EReal) := by
  have h0 := congrFun h (fun a => a.elim0)
  have h1 : IntOp.andi (Ideal.cmp .oge (X (ix1 k)) (FloatOps.ofBits (F := Ideal) .f32 0x358637BD#32))
      (Ideal.cmp .ole (X (ix1 k)) (FloatOps.ofBits (F := Ideal) .f32 0x3F800000#32)) = 1#1 :=
    Host.reduce_andi_eq_one _ _ _ _ _ h0 (ix1 k) (funext fun a => a.elim0)
  obtain ⟨h2, h3⟩ := IntOp.andi_eq_one.1 h1
  rw [lower_eq] at h2
  rw [upper_eq] at h3
  generalize X (ix1 k) = x at h2 h3
  refine real_between x millionth 1 ?_ ?_
  · by_contra hc
    simp [Ideal.cmp, hc] at h2
  · by_contra hc
    rw [EReal.coe_one] at hc
    simp [Ideal.cmp, hc] at h3

/-- In every row the two references have the same first maximum, so the kernel's result is the clamped reference's. -/
theorem resultC_eq (m : (ℓ : Loc Cert.KernelIdeal.nD Cert.KernelIdeal.τ Cert.KernelIdeal.sig) → Buf (Elt Ideal) ℓ)
    (c : Dev Cert.KernelIdeal.nD)
    (h : Cert.Pre_drawn_from_setup.fn (F := Ideal)
      (m ((c.tc : Thread Cert.KernelIdeal.nD Cert.KernelIdeal.τ).loc Cert.KernelIdeal.main_arg0)) = fun _ => 1#1) :
    Cert.KernelIdeal.Value.result m c
      = Cert.ReferenceClampedIdeal.Term.resultV (F := Ideal)
          (m ((c.tc : Thread Cert.KernelIdeal.nD Cert.KernelIdeal.τ).loc Cert.KernelIdeal.main_arg0)) :=
  first_ext (fun r => rowScoreC (Cert.KernelIdeal.Value.freq m c) r) _ _
    (fun r => (Cert.KernelIdeal.Value.result_first m c r).imp fun i hi =>
      ⟨first_clamp _ (pre_spec _ h) r i hi.1, hi.2⟩)
    (fun r => resultC_first _ r)

end Cert.Proof
-- ==== Proof.lean ====
/- The claims: the frames, that the idealization keeps the kernel, and that over the reals the kernel and each of the two
   references have the same result. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceClampedIdeal
public import proofs.«01_k».proof.Proof.Gen.Pre_drawn_from_setup
public import proofs.«01_k».proof.Proof.RefRun
public import proofs.«01_k».proof.Proof.Equation
public import proofs.«01_k».proof.Proof.ClampFirst
public import Idealize.ShloMosaic.Adequacy
public import Idealize.ShloMosaic.Init

@[expose] public section

noncomputable section

namespace Cert.Proof

open Idealize.ShloMosaic Idealize.ShloMosaic.TcCoe Idealize.SL.Sem

/-- The reference runs, leaves its argument unchanged and every semaphore at zero. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩)
    (Cert.ReferenceIdeal.Term.run (F := Ideal) m ρ)

/-- Over the reals the kernel and the reference, run on the same frequencies, end with the same result. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.result m c, Cert.KernelIdeal.Value.run m g,
    (θ_run Cert.ReferenceIdeal.defs _ _).mono (fun r h c => ⟨(h c).1.trans ?_, (h c).2⟩)
      (Cert.ReferenceIdeal.Term.run (F := Ideal) m' g')⟩
  exact (congrArg (Cert.ReferenceIdeal.Term.resultV (F := Ideal)) (hagree c)).trans (result_eq m c).symm

/-- The reference with the clamp runs, leaves its argument unchanged and every semaphore at zero. -/
theorem frame_clamped :
    Cert.quiescent_ReferenceClampedIdeal (hReferenceClampedIdeal := Cert.ReferenceClampedIdeal.Gen.facts) := by
  intro m ρ _
  exact (θ_run Cert.ReferenceClampedIdeal.defs _ _).mono
    (fun r h => ⟨fun c => (h c).2, Idealize.ShloMosaic.sem_eq_zero_of_no_sems (by decide) r.2⟩)
    (Cert.ReferenceClampedIdeal.Term.run (F := Ideal) m ρ)

/-- Over the reals the kernel and the reference with the clamp, run on the same frequencies between one millionth and
    one, end with the same result. -/
theorem algebraic_clamped : Cert.algebraic_KernelIdeal_ReferenceClampedIdeal_pre_drawn_from_setup
    (hKernelIdeal := Cert.KernelIdeal.Gen.facts) (hReferenceClampedIdeal := Cert.ReferenceClampedIdeal.Gen.facts)
    (hPre_drawn_from_setup := Cert.Pre_drawn_from_setup.Gen.facts) := by
  intro m g m' g' hpre hagree
  refine ⟨fun c => Cert.KernelIdeal.Value.result m c, Cert.KernelIdeal.Value.run m g,
    (θ_run Cert.ReferenceClampedIdeal.defs _ _).mono (fun r h c => ⟨(h c).1.trans ?_, (h c).2⟩)
      (Cert.ReferenceClampedIdeal.Term.run (F := Ideal) m' g')⟩
  exact (congrArg (Cert.ReferenceClampedIdeal.Term.resultV (F := Ideal)) (hagree c)).trans (resultC_eq m c (hpre c)).symm

/-- All the claims. -/
theorem claim : Cert.Claim :=
  ⟨Cert.Kernel.Gen.facts, Cert.KernelIdeal.Gen.facts, Cert.ReferenceIdeal.Gen.facts, Cert.ReferenceClampedIdeal.Gen.facts,
    Cert.Pre_drawn_from_setup.Gen.facts,
    fun m ρ _ => Cert.Kernel.Gen.frame m ρ, fun m ρ _ => Cert.KernelIdeal.Gen.frame m ρ,
    fun m ρ _ => Cert.KernelIdeal.Gen.frame m ρ, frame_reference, frame_clamped,
    fun m ρ _ => frame_clamped m ρ trivial, trivial, algebraic, algebraic_clamped⟩

end Cert.Proof

end
